-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![2048, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S2048x2048 : Shape := ⟨2, ![2048, 2048]⟩
abbrev S128x2048 : Shape := ⟨2, ![128, 2048]⟩
abbrev S3 : Shape := ⟨1, ![3]⟩
abbrev S16 : Shape := ⟨1, ![16]⟩
abbrev S1 : Shape := ⟨1, ![1]⟩
abbrev S_ : Shape := ⟨0, ![]⟩
abbrev S128x128 : Shape := ⟨2, ![128, 128]⟩
abbrev S128x512 : Shape := ⟨2, ![128, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x128, .f32⟩
  | .hbm, ⟨1, _⟩ => ⟨S2048x2048, .f32⟩
  | .hbm, ⟨2, _⟩ => ⟨S128x2048, .f32⟩
  | .local _ .vmem, ⟨0, _⟩ => ⟨S2048x128, .f32⟩
  | .local _ .vmem, ⟨1, _⟩ => ⟨S2048x128, .bf16⟩
  | .local _ .vmem, ⟨2, _⟩ => ⟨S2048x2048, .f32⟩
  | .local _ .vmem, ⟨3, _⟩ => ⟨S128x2048, .bf16⟩
  | .local _ .vmem, ⟨4, _⟩ => ⟨S128x2048, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v8 : BitVec 32 := Scalar.addi v2 c1_i32_1
  let c16_i32_2 : BitVec 32 := 16#32
  let v9 : BitVec 32 := Scalar.remsi v8 c16_i32_2
  let c1_i32_4 : BitVec 32 := 1#32
  let v10 : BitVec 32 := Scalar.muli v9 c1_i32_4
  let v11 : BitVec 32 := Scalar.addi c0_i32_5 v10
  v11.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v12 : BitVec 32 := Scalar.addi v2 c2_i32
  let c16_i32_6 : BitVec 32 := 16#32
  let v13 : BitVec 32 := Scalar.remsi v12 c16_i32_6
  let c1_i32_8 : BitVec 32 := 1#32
  let v14 : BitVec 32 := Scalar.muli v13 c1_i32_8
  let v15 : BitVec 32 := Scalar.addi c0_i32_9 v14
  v15.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v16 : BitVec 32 := Scalar.addi v2 c3_i32
  let c16_i32_10 : BitVec 32 := 16#32
  let v17 : BitVec 32 := Scalar.remsi v16 c16_i32_10
  let c1_i32_12 : BitVec 32 := 1#32
  let v18 : BitVec 32 := Scalar.muli v17 c1_i32_12
  let v19 : BitVec 32 := Scalar.addi c0_i32_13 v18
  v19.toNat
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v20 : BitVec 32 := Scalar.addi v2 c4_i32
  let c16_i32_14 : BitVec 32 := 16#32
  let v21 : BitVec 32 := Scalar.remsi v20 c16_i32_14
  let c1_i32_16 : BitVec 32 := 1#32
  let v22 : BitVec 32 := Scalar.muli v21 c1_i32_16
  let v23 : BitVec 32 := Scalar.addi c0_i32_17 v22
  v23.toNat
def k0_dev5 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v24 : BitVec 32 := Scalar.addi v2 c5_i32
  let c16_i32_18 : BitVec 32 := 16#32
  let v25 : BitVec 32 := Scalar.remsi v24 c16_i32_18
  let c1_i32_20 : BitVec 32 := 1#32
  let v26 : BitVec 32 := Scalar.muli v25 c1_i32_20
  let v27 : BitVec 32 := Scalar.addi c0_i32_21 v26
  v27.toNat
def k0_dev6 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v28 : BitVec 32 := Scalar.addi v2 c6_i32
  let c16_i32_22 : BitVec 32 := 16#32
  let v29 : BitVec 32 := Scalar.remsi v28 c16_i32_22
  let c1_i32_24 : BitVec 32 := 1#32
  let v30 : BitVec 32 := Scalar.muli v29 c1_i32_24
  let v31 : BitVec 32 := Scalar.addi c0_i32_25 v30
  v31.toNat
def k0_dev7 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v32 : BitVec 32 := Scalar.addi v2 c7_i32
  let c16_i32_26 : BitVec 32 := 16#32
  let v33 : BitVec 32 := Scalar.remsi v32 c16_i32_26
  let c1_i32_28 : BitVec 32 := 1#32
  let v34 : BitVec 32 := Scalar.muli v33 c1_i32_28
  let v35 : BitVec 32 := Scalar.addi c0_i32_29 v34
  v35.toNat
def k0_dev8 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v36 : BitVec 32 := Scalar.addi v2 c8_i32
  let c16_i32_30 : BitVec 32 := 16#32
  let v37 : BitVec 32 := Scalar.remsi v36 c16_i32_30
  let c1_i32_32 : BitVec 32 := 1#32
  let v38 : BitVec 32 := Scalar.muli v37 c1_i32_32
  let v39 : BitVec 32 := Scalar.addi c0_i32_33 v38
  v39.toNat
def k0_dev9 (d0 : Dev nD) : Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v40 : BitVec 32 := Scalar.addi v2 c9_i32
  let c16_i32_34 : BitVec 32 := 16#32
  let v41 : BitVec 32 := Scalar.remsi v40 c16_i32_34
  let c1_i32_36 : BitVec 32 := 1#32
  let v42 : BitVec 32 := Scalar.muli v41 c1_i32_36
  let v43 : BitVec 32 := Scalar.addi c0_i32_37 v42
  v43.toNat
def k0_dev10 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v44 : BitVec 32 := Scalar.addi v2 c10_i32
  let c16_i32_38 : BitVec 32 := 16#32
  let v45 : BitVec 32 := Scalar.remsi v44 c16_i32_38
  let c1_i32_40 : BitVec 32 := 1#32
  let v46 : BitVec 32 := Scalar.muli v45 c1_i32_40
  let v47 : BitVec 32 := Scalar.addi c0_i32_41 v46
  v47.toNat
def k0_dev11 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v48 : BitVec 32 := Scalar.addi v2 c11_i32
  let c16_i32_42 : BitVec 32 := 16#32
  let v49 : BitVec 32 := Scalar.remsi v48 c16_i32_42
  let c1_i32_44 : BitVec 32 := 1#32
  let v50 : BitVec 32 := Scalar.muli v49 c1_i32_44
  let v51 : BitVec 32 := Scalar.addi c0_i32_45 v50
  v51.toNat
def k0_dev12 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v52 : BitVec 32 := Scalar.addi v2 c12_i32
  let c16_i32_46 : BitVec 32 := 16#32
  let v53 : BitVec 32 := Scalar.remsi v52 c16_i32_46
  let c1_i32_48 : BitVec 32 := 1#32
  let v54 : BitVec 32 := Scalar.muli v53 c1_i32_48
  let v55 : BitVec 32 := Scalar.addi c0_i32_49 v54
  v55.toNat
def k0_dev13 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v56 : BitVec 32 := Scalar.addi v2 c13_i32
  let c16_i32_50 : BitVec 32 := 16#32
  let v57 : BitVec 32 := Scalar.remsi v56 c16_i32_50
  let c1_i32_52 : BitVec 32 := 1#32
  let v58 : BitVec 32 := Scalar.muli v57 c1_i32_52
  let v59 : BitVec 32 := Scalar.addi c0_i32_53 v58
  v59.toNat
def k0_dev14 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v60 : BitVec 32 := Scalar.addi v2 c14_i32
  let c16_i32_54 : BitVec 32 := 16#32
  let v61 : BitVec 32 := Scalar.remsi v60 c16_i32_54
  let c1_i32_56 : BitVec 32 := 1#32
  let v62 : BitVec 32 := Scalar.muli v61 c1_i32_56
  let v63 : BitVec 32 := Scalar.addi c0_i32_57 v62
  v63.toNat
def k0_dev15 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v64 : BitVec 32 := Scalar.addi v2 c15_i32
  let c16_i32_58 : BitVec 32 := 16#32
  let v65 : BitVec 32 := Scalar.remsi v64 c16_i32_58
  let c1_i32_60 : BitVec 32 := 1#32
  let v66 : BitVec 32 := Scalar.muli v65 c1_i32_60
  let v67 : BitVec 32 := Scalar.addi c0_i32_61 v66
  v67.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 2 → Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_69 : BitVec 32 := 128#32
  let v78 : BitVec 32 := Scalar.muli v2 c128_i32_69
  ![0, v78.toNat]
def k0_off3 (d0 : Dev nD) (c1_i32_67 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v75 : BitVec 32 := Scalar.addi v2 c1_i32_67
  let c16_i32_68 : BitVec 32 := 16#32
  let v76 : BitVec 32 := Scalar.remsi v75 c16_i32_68
  let c128_i32 : BitVec 32 := 128#32
  let v77 : BitVec 32 := Scalar.muli v76 c128_i32
  let c0_i32_74 : BitVec 32 := 0#32
  ![v77.toNat, 0]
def k0_dev16 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_67 : BitVec 32 := 1#32
  let v75 : BitVec 32 := Scalar.addi v2 c1_i32_67
  let c16_i32_68 : BitVec 32 := 16#32
  let v76 : BitVec 32 := Scalar.remsi v75 c16_i32_68
  let c1_i32_71 : BitVec 32 := 1#32
  let v79 : BitVec 32 := Scalar.muli v76 c1_i32_71
  let v80 : BitVec 32 := Scalar.addi c0_i32_72 v79
  v80.toNat
def k0_dev17 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_75 : BitVec 32 := 2#32
  let v87 : BitVec 32 := Scalar.addi v2 c2_i32_75
  let c16_i32_76 : BitVec 32 := 16#32
  let v88 : BitVec 32 := Scalar.remsi v87 c16_i32_76
  let c1_i32_80 : BitVec 32 := 1#32
  let v91 : BitVec 32 := Scalar.muli v88 c1_i32_80
  let v92 : BitVec 32 := Scalar.addi c0_i32_81 v91
  v92.toNat
def k0_dev18 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_84 : BitVec 32 := 3#32
  let v99 : BitVec 32 := Scalar.addi v2 c3_i32_84
  let c16_i32_85 : BitVec 32 := 16#32
  let v100 : BitVec 32 := Scalar.remsi v99 c16_i32_85
  let c1_i32_89 : BitVec 32 := 1#32
  let v103 : BitVec 32 := Scalar.muli v100 c1_i32_89
  let v104 : BitVec 32 := Scalar.addi c0_i32_90 v103
  v104.toNat
def k0_dev19 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_93 : BitVec 32 := 4#32
  let v111 : BitVec 32 := Scalar.addi v2 c4_i32_93
  let c16_i32_94 : BitVec 32 := 16#32
  let v112 : BitVec 32 := Scalar.remsi v111 c16_i32_94
  let c1_i32_98 : BitVec 32 := 1#32
  let v115 : BitVec 32 := Scalar.muli v112 c1_i32_98
  let v116 : BitVec 32 := Scalar.addi c0_i32_99 v115
  v116.toNat
def k0_dev20 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_102 : BitVec 32 := 5#32
  let v123 : BitVec 32 := Scalar.addi v2 c5_i32_102
  let c16_i32_103 : BitVec 32 := 16#32
  let v124 : BitVec 32 := Scalar.remsi v123 c16_i32_103
  let c1_i32_107 : BitVec 32 := 1#32
  let v127 : BitVec 32 := Scalar.muli v124 c1_i32_107
  let v128 : BitVec 32 := Scalar.addi c0_i32_108 v127
  v128.toNat
def k0_dev21 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_111 : BitVec 32 := 6#32
  let v135 : BitVec 32 := Scalar.addi v2 c6_i32_111
  let c16_i32_112 : BitVec 32 := 16#32
  let v136 : BitVec 32 := Scalar.remsi v135 c16_i32_112
  let c1_i32_116 : BitVec 32 := 1#32
  let v139 : BitVec 32 := Scalar.muli v136 c1_i32_116
  let v140 : BitVec 32 := Scalar.addi c0_i32_117 v139
  v140.toNat
def k0_dev22 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_120 : BitVec 32 := 7#32
  let v147 : BitVec 32 := Scalar.addi v2 c7_i32_120
  let c16_i32_121 : BitVec 32 := 16#32
  let v148 : BitVec 32 := Scalar.remsi v147 c16_i32_121
  let c1_i32_125 : BitVec 32 := 1#32
  let v151 : BitVec 32 := Scalar.muli v148 c1_i32_125
  let v152 : BitVec 32 := Scalar.addi c0_i32_126 v151
  v152.toNat
def k0_dev23 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_129 : BitVec 32 := 8#32
  let v159 : BitVec 32 := Scalar.addi v2 c8_i32_129
  let c16_i32_130 : BitVec 32 := 16#32
  let v160 : BitVec 32 := Scalar.remsi v159 c16_i32_130
  let c1_i32_134 : BitVec 32 := 1#32
  let v163 : BitVec 32 := Scalar.muli v160 c1_i32_134
  let v164 : BitVec 32 := Scalar.addi c0_i32_135 v163
  v164.toNat
def k0_dev24 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_138 : BitVec 32 := 9#32
  let v171 : BitVec 32 := Scalar.addi v2 c9_i32_138
  let c16_i32_139 : BitVec 32 := 16#32
  let v172 : BitVec 32 := Scalar.remsi v171 c16_i32_139
  let c1_i32_143 : BitVec 32 := 1#32
  let v175 : BitVec 32 := Scalar.muli v172 c1_i32_143
  let v176 : BitVec 32 := Scalar.addi c0_i32_144 v175
  v176.toNat
def k0_dev25 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_147 : BitVec 32 := 10#32
  let v183 : BitVec 32 := Scalar.addi v2 c10_i32_147
  let c16_i32_148 : BitVec 32 := 16#32
  let v184 : BitVec 32 := Scalar.remsi v183 c16_i32_148
  let c1_i32_152 : BitVec 32 := 1#32
  let v187 : BitVec 32 := Scalar.muli v184 c1_i32_152
  let v188 : BitVec 32 := Scalar.addi c0_i32_153 v187
  v188.toNat
def k0_dev26 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_156 : BitVec 32 := 11#32
  let v195 : BitVec 32 := Scalar.addi v2 c11_i32_156
  let c16_i32_157 : BitVec 32 := 16#32
  let v196 : BitVec 32 := Scalar.remsi v195 c16_i32_157
  let c1_i32_161 : BitVec 32 := 1#32
  let v199 : BitVec 32 := Scalar.muli v196 c1_i32_161
  let v200 : BitVec 32 := Scalar.addi c0_i32_162 v199
  v200.toNat
def k0_dev27 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_165 : BitVec 32 := 12#32
  let v207 : BitVec 32 := Scalar.addi v2 c12_i32_165
  let c16_i32_166 : BitVec 32 := 16#32
  let v208 : BitVec 32 := Scalar.remsi v207 c16_i32_166
  let c1_i32_170 : BitVec 32 := 1#32
  let v211 : BitVec 32 := Scalar.muli v208 c1_i32_170
  let v212 : BitVec 32 := Scalar.addi c0_i32_171 v211
  v212.toNat
def k0_dev28 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_174 : BitVec 32 := 13#32
  let v219 : BitVec 32 := Scalar.addi v2 c13_i32_174
  let c16_i32_175 : BitVec 32 := 16#32
  let v220 : BitVec 32 := Scalar.remsi v219 c16_i32_175
  let c1_i32_179 : BitVec 32 := 1#32
  let v223 : BitVec 32 := Scalar.muli v220 c1_i32_179
  let v224 : BitVec 32 := Scalar.addi c0_i32_180 v223
  v224.toNat
def k0_dev29 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_183 : BitVec 32 := 14#32
  let v231 : BitVec 32 := Scalar.addi v2 c14_i32_183
  let c16_i32_184 : BitVec 32 := 16#32
  let v232 : BitVec 32 := Scalar.remsi v231 c16_i32_184
  let c1_i32_188 : BitVec 32 := 1#32
  let v235 : BitVec 32 := Scalar.muli v232 c1_i32_188
  let v236 : BitVec 32 := Scalar.addi c0_i32_189 v235
  v236.toNat
def k0_dev30 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_192 : BitVec 32 := 15#32
  let v243 : BitVec 32 := Scalar.addi v2 c15_i32_192
  let c16_i32_193 : BitVec 32 := 16#32
  let v244 : BitVec 32 := Scalar.remsi v243 c16_i32_193
  let c1_i32_197 : BitVec 32 := 1#32
  let v247 : BitVec 32 := Scalar.muli v244 c1_i32_197
  let v248 : BitVec 32 := Scalar.addi c0_i32_198 v247
  v248.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_201 : BitVec 32 := 128#32
  let v255 : BitVec 32 := Scalar.muli v2 c128_i32_201
  let v256 : Index := Scalar.indexCast v255
  let c0_202 : Index := 0#32
  ![v256.toNat, 0]
def k0_off5 (d0 : Dev nD) : Fin 2 → Nat :=
  let c0_204 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_203 : BitVec 32 := 128#32
  let v258 : BitVec 32 := Scalar.muli v2 c128_i32_203
  let v259 : Index := Scalar.indexCast v258
  ![0, v259.toNat]
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Sched.lean ====
/-
# The exchange of `x`: its cells, its contents and its schedule

Sixteen devices. Device `c` holds a column block of `x` (2048×128) and all of `w`. It rounds its block to
bfloat16, keeps row block `c` of it and sends row block `b` to every other device `b`, which stores it as its column
block `c`. So device `c` ends with row block `c` of the whole `x` (128×2048), multiplies it with `w` and applies gelu.

Semaphores of device `c`, each used for one round:
* the barrier: every other device signals it once and with that hands over column block `c` of its own landing buffer;
* three local completions: `x` in, `w` in, the result out;
* send cell `s` (1 ≤ s < 16): the transfer to device `c + s` has read its source;
* receive cell `j` (j ≠ c): device `j`'s block has landed in column block `j`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Rounds.Family
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and this exchange's, whose duties are named by devices -/

/-- This exchange's resources: rounds at the cells, their duties named by devices. -/
abbrev UX : Type := URounds (GSem nD τ sig) (Dev nD)
/-- The pipeline library's resources beside this exchange's. -/
abbrev UU : Type := UR sig nD τ × UX

local notation "𝕄" => MT nD τ sig Unit (Elt F) ℕ UU ℕ

/-- Where the pipeline library's resources lie in the whole. -/
abbrev EP : Emb (UR sig nD τ) (MT nD τ sig Unit (Elt F) ℕ UU ℕ) := embL
/-- Where this exchange's resources lie in the whole. -/
abbrev ER : Emb UX (MT nD τ sig Unit (Elt F) ℕ UU ℕ) := embR

variable (m : (ℓ : Loc nD τ sig) → Buf (Elt F) ℓ) (ρ : Dev nD → PrngReg)

/-! ## Devices around the ring -/

/-- The device `s` places after `c`. -/
def sh (c : Dev nD) (s : ℕ) : Dev nD := ⟨(c.val + s) % 16, Nat.mod_lt _ (by decide)⟩
/-- How many places `b` lies after `c`. -/
def dist (c b : Dev nD) : Fin 16 := ⟨(b.val + 16 - c.val) % 16, Nat.mod_lt _ (by decide)⟩

/-- Going from `c` as far as `b` lies leads to `b`. -/
theorem sh_dist (c b : Dev nD) : sh c (dist c b).val = b := by revert c b; decide
/-- The device `s` places on lies `s` places on. -/
theorem dist_sh (c : Dev nD) (s : Fin 16) : dist c (sh c s.val) = s := by revert c s; decide
/-- Only the device itself lies no place on. -/
theorem dist_eq_zero (c b : Dev nD) : dist c b = 0 ↔ b = c := by revert c b; decide
/-- A device lies no place from itself. -/
theorem dist_self (c : Dev nD) : dist c c = 0 := (dist_eq_zero c c).2 rfl
/-- Fewer than sixteen places on, and at least one, lies another device. -/
theorem sh_ne (c : Dev nD) (s : Fin 16) (hs : s ≠ 0) : sh c s.val ≠ c := fun h => hs (by rw [← dist_sh c s, h, dist_self])

/-- The devices more than `s` places after `c`: those whose turn comes after step `s`. -/
def rem (c : Dev nD) (s : ℕ) : Finset (Dev nD) := Finset.univ.filter fun b => s < (dist c b).val

/-- The devices other than `c`. -/
abbrev others (c : Dev nD) : Finset (Dev nD) := Finset.univ.erase c

/-- Before the first step every other device's turn is to come. -/
theorem rem_zero (c : Dev nD) : rem c 0 = others c := by revert c; decide
/-- After fifteen steps nobody's is. -/
theorem rem_last (c : Dev nD) : rem c 15 = ∅ := by revert c; decide
/-- Those to come after step `s` are the one whose turn is next and those to come after it. -/
theorem rem_succ (c : Dev nD) (s : Fin 15) : rem c s.val = insert (sh c (s.val + 1)) (rem c (s.val + 1)) := by revert c s; decide
/-- The device whose turn it is isn't among those that come after it. -/
theorem sh_not_mem_rem (c : Dev nD) (s : Fin 15) : sh c (s.val + 1) ∉ rem c (s.val + 1) := by revert c s; decide
/-- The device itself never has a turn. -/
theorem self_not_mem_rem (c : Dev nD) (s : ℕ) : c ∉ rem c s := fun h => by
  have := (Finset.mem_filter.mp h).2; rw [dist_self] at this; exact Nat.not_lt_zero _ this

/-- The devices from `n` on, in their numbering, other than `c`: those whose blocks are still to be received. -/
def upto (c : Dev nD) (n : ℕ) : Finset (Dev nD) := Finset.univ.filter fun j => n ≤ j.val ∧ j ≠ c

/-- At the start every other device's block is to be received. -/
theorem upto_zero (c : Dev nD) : upto c 0 = others c := by revert c; decide
/-- At the end no device's is. -/
theorem upto_last (c : Dev nD) : upto c 16 = ∅ := by revert c; decide
/-- From another device's number on: that device's block and those after it. -/
theorem upto_succ (c j : Dev nD) (h : c ≠ j) : upto c j.val = insert j (upto c (j.val + 1)) := by revert c j; decide
/-- From the device's own number on: those after it. -/
theorem upto_skip (c : Dev nD) : upto c c.val = upto c (c.val + 1) := by revert c; decide
/-- A device isn't among those after it. -/
theorem not_mem_upto (c j : Dev nD) : j ∉ upto c (j.val + 1) := by revert c j; decide
/-- A device with a number below `n` isn't among those from `n` on. -/
theorem mem_compl_upto (c j : Dev nD) (n : ℕ) (h : j.val < n) : j ∈ (upto c n)ᶜ := by
  rw [Finset.mem_compl]; exact fun h' => absurd (Finset.mem_filter.mp h').2.1 (by omega)

/-! ## Row blocks and column blocks -/

/-- The indices whose block is among `J`. -/
def fib {ι : Type} [Fintype ι] (g : ι → Dev nD) (J : Finset (Dev nD)) : Finset ι := Finset.univ.filter fun i => g i ∈ J

/-- The indices of one more block are those of that block and the rest. -/
theorem fib_insert {ι : Type} [Fintype ι] [DecidableEq ι] (g : ι → Dev nD) (b : Dev nD) (J : Finset (Dev nD)) :
    fib g (insert b J) = fib g {b} ∪ fib g J := by
  ext i; simp only [fib, Finset.mem_filter, Finset.mem_univ, true_and, Finset.mem_insert, Finset.mem_union, Finset.mem_singleton]
/-- Different blocks share no index. -/
theorem fib_disjoint {ι : Type} [Fintype ι] (g : ι → Dev nD) {b : Dev nD} {J : Finset (Dev nD)} (hb : b ∉ J) :
    Disjoint (fib g {b}) (fib g J) := Finset.disjoint_left.2 fun i h h' => by
  have h1 := (Finset.mem_filter.mp h).2; have h2 := (Finset.mem_filter.mp h').2
  rw [Finset.mem_singleton] at h1; exact hb (h1 ▸ h2)
/-- All blocks together have every index. -/
theorem fib_univ {ι : Type} [Fintype ι] (g : ι → Dev nD) : fib g Finset.univ = Finset.univ :=
  Finset.filter_true_of_mem fun i _ => Finset.mem_univ _
/-- An index is among those of one block where that is its block. -/
theorem mem_fib_one {ι : Type} [Fintype ι] (g : ι → Dev nD) (b : Dev nD) (i : ι) : i ∈ fib g {b} ↔ g i = b := by
  simp only [fib, Finset.mem_filter, Finset.mem_univ, true_and, Finset.mem_singleton]
/-- More blocks have more indices. -/
theorem fib_mono {ι : Type} [Fintype ι] (g : ι → Dev nD) {J J' : Finset (Dev nD)} (h : J ⊆ J') : fib g J ⊆ fib g J' :=
  fun i hi => Finset.mem_filter.2 ⟨Finset.mem_univ _, h (Finset.mem_filter.mp hi).2⟩

/-- A row of a 2048×128 array is below 2048. -/
theorem row_lt (i : S2048x128.Idx) : (i 0).val < 2048 := (i 0).isLt
/-- A row of a 128×2048 array is below 128. -/
theorem row_lt' (i : S128x2048.Idx) : (i 0).val < 128 := (i 0).isLt
/-- A column of a 2048×128 array is below 128. -/
theorem col_lt (i : S2048x128.Idx) : (i 1).val < 128 := (i 1).isLt
/-- A column of a 128×2048 array is below 2048. -/
theorem col_lt' (i : S128x2048.Idx) : (i 1).val < 2048 := (i 1).isLt

/-- The row block an index of a 2048×128 array lies in. -/
def rowBlk (i : S2048x128.Idx) : Dev nD := ⟨(i 0).val / 128, by have := row_lt i; show _ < 16; omega⟩
/-- The column block an index of a 128×2048 array lies in. -/
def colBlk (i : S128x2048.Idx) : Dev nD := ⟨(i 1).val / 128, by have := col_lt' i; show _ < 16; omega⟩

/-- The indices of the row blocks `J`. -/
abbrev rows (J : Finset (Dev nD)) : Finset S2048x128.Idx := fib rowBlk J
/-- The indices of the column blocks `J`. -/
abbrev cols (J : Finset (Dev nD)) : Finset S128x2048.Idx := fib colBlk J

/-- Row block `b` lies in the array. -/
theorem rowInb (b : Dev nD) : ∀ a, (![128 * b.val, 0] : Fin 2 → ℕ) a + S128x128.size a ≤ S2048x128.size a := by
  intro a; have hb : b.val < 16 := b.isLt
  fin_cases a
  · show 128 * b.val + 128 ≤ 2048; omega
  · exact Nat.le_refl 128
/-- Column block `b` lies in the array. -/
theorem colInb (b : Dev nD) : ∀ a, (![0, 128 * b.val] : Fin 2 → ℕ) a + S128x128.size a ≤ S128x2048.size a := by
  intro a; have hb : b.val < 16 := b.isLt
  fin_cases a
  · exact Nat.le_refl 128
  · show 128 * b.val + 128 ≤ 2048; omega

/-! ## The buffers -/

/-- The argument `x`, this device's column block of it. -/
abbrev xH : Memref sig .tc .hbm S2048x128 .f32 := Memref.whole main_arg0
/-- The argument `w`. -/
abbrev wH : Memref sig .tc .hbm S2048x2048 .f32 := Memref.whole main_arg1
/-- The result. -/
abbrev oH : Memref sig .tc .hbm S128x2048 .f32 := Memref.whole main_v1
/-- Where `x` is copied to. -/
abbrev xM : Memref sig .tc .vmem S2048x128 .f32 := Memref.whole cc0_scratch0
/-- The rounded block, which the transfers read. -/
abbrev bM : Memref sig .tc .vmem S2048x128 .bf16 := Memref.whole cc0_scratch1
/-- Where `w` is copied to. -/
abbrev wM : Memref sig .tc .vmem S2048x2048 .f32 := Memref.whole cc0_scratch2
/-- The landing buffer, which becomes the gathered row block. -/
abbrev rM : Memref sig .tc .vmem S128x2048 .bf16 := Memref.whole cc0_scratch3
/-- Where the result is made before it is copied out. -/
abbrev oM : Memref sig .tc .vmem S128x2048 .f32 := Memref.whole cc0_scratch4

/-- Row block `b` of the rounded block, and column block `b` of the landing buffer, as the program's slices. -/
abbrev rowM (b : Dev nD) : Memref sig .tc .vmem S128x128 .bf16 :=
  bM.slice (Rect.unit (s := S2048x128) ![128 * b.val, 0] S128x128.size (rowInb b)) (fun _ => rfl)
/-- Column block `b` of the landing buffer, as the program's slice. -/
abbrev colM (b : Dev nD) : Memref sig .tc .vmem S128x128 .bf16 :=
  rM.slice (Rect.unit (s := S128x2048) ![0, 128 * b.val] S128x128.size (colInb b)) (fun _ => rfl)

/-- The program's slice of row block `b` has that block's indices. -/
theorem rowM_set (b : Dev nD) : (rowM b).view.set = rows {b} := by
  show ((View.whole cc0_scratch1).slice (Rect.unit (s := S2048x128) ![128 * b.val, 0] S128x128.size (rowInb b))).set = _
  rw [View.set_slice_whole]
  ext i
  rw [Rect.mem_set_unit, mem_fib_one]
  have hc := col_lt i
  constructor
  · intro h
    have h0 := h 0
    refine Fin.ext ?_
    change (i 0).val / 128 = b.val
    have h1 : 128 * b.val ≤ (i 0).val := h0.1
    have h2 : (i 0).val < 128 * b.val + 128 := h0.2
    omega
  · rintro rfl a
    fin_cases a
    · show 128 * ((i 0).val / 128) ≤ (i 0).val ∧ (i 0).val < 128 * ((i 0).val / 128) + 128
      omega
    · exact ⟨Nat.zero_le _, by show (i 1).val < 0 + 128; omega⟩

/-- The program's slice of column block `b` has that block's indices. -/
theorem colM_set (b : Dev nD) : (colM b).view.set = cols {b} := by
  show ((View.whole cc0_scratch3).slice (Rect.unit (s := S128x2048) ![0, 128 * b.val] S128x128.size (colInb b))).set = _
  rw [View.set_slice_whole]
  ext i
  rw [Rect.mem_set_unit, mem_fib_one]
  have hc := row_lt' i
  constructor
  · intro h
    have h0 := h 1
    refine Fin.ext ?_
    change (i 1).val / 128 = b.val
    have h1 : 128 * b.val ≤ (i 1).val := h0.1
    have h2 : (i 1).val < 128 * b.val + 128 := h0.2
    omega
  · rintro rfl a
    fin_cases a
    · exact ⟨Nat.zero_le _, by show (i 0).val < 0 + 128; omega⟩
    · show 128 * ((i 1).val / 128) ≤ (i 1).val ∧ (i 1).val < 128 * ((i 1).val / 128) + 128
      omega

/-- Where an index of the slice of row block `b` lies. -/
theorem rowM_emb (b : Dev nD) (x : S128x128.Idx) (a : Fin 2) :
    ((rowM b).view.emb x a).val = (![128 * b.val, 0] : Fin 2 → ℕ) a + (x a).val :=
  ValueKit.view_emb_slice_whole_unit_val cc0_scratch1 (![128 * b.val, 0] : Fin 2 → ℕ) S128x128.size (rowInb b) x a
/-- Where an index of the slice of column block `b` lies. -/
theorem colM_emb (b : Dev nD) (x : S128x128.Idx) (a : Fin 2) :
    ((colM b).view.emb x a).val = (![0, 128 * b.val] : Fin 2 → ℕ) a + (x a).val :=
  ValueKit.view_emb_slice_whole_unit_val cc0_scratch3 (![0, 128 * b.val] : Fin 2 → ℕ) S128x128.size (colInb b) x a

/-! ## The contents -/

/-- What device `c`'s argument `x` holds at the start. -/
def xC (c : Dev nD) : Vec F S2048x128 .f32 := m ((c : Thread nD τ).loc main_arg0)
/-- What device `c`'s argument `w` holds at the start. -/
def wC (c : Dev nD) : Vec F S2048x2048 .f32 := m ((c : Thread nD τ).loc main_arg1)
/-- Device `c`'s block of `x`, rounded: what it sends from. -/
def bC (c : Dev nD) : Vec F S2048x128 .bf16 := k0_pay2 (k0_pay1 (xC m c))

/-- Where element `i` of device `c`'s gathered row block stands in the block of the device it comes from. -/
def srcIdx (c : Dev nD) (i : S128x2048.Idx) : S2048x128.Idx :=
  Fin.cons (α := fun a => S2048x128.Coord a) ⟨128 * c.val + (i 0).val, by have := row_lt' i; have hc : c.val < 16 := c.isLt; show _ < 2048; omega⟩
    (Fin.cons (α := fun a => S2048x128.Coord a.succ) ⟨(i 1).val % 128, Nat.mod_lt _ (by decide)⟩ finZeroElim)

/-- Row block `c` of the whole `x`, rounded: column block `j` is device `j`'s. -/
def rC (c : Dev nD) : Vec F S128x2048 .bf16 := fun i => bC m (colBlk i) (srcIdx c i)

/-- The landing: device `b`'s row block `c`, copied to column block `b` of device `c`'s landing buffer, is that column
    block of device `c`'s gathered row block. -/
theorem emb_src (c b : Dev nD) (x : S128x128.Idx) :
    colBlk ((colM b).view.emb x) = b ∧ srcIdx c ((colM b).view.emb x) = (rowM c).view.emb x := by
  have hx1 : (x 1).val < 128 := (x 1).isLt
  have h1 : ((colM b).view.emb x 1).val = 128 * b.val + (x 1).val := colM_emb b x 1
  have h0 : ((colM b).view.emb x 0).val = 0 + (x 0).val := colM_emb b x 0
  constructor
  · refine Fin.ext ?_
    show ((colM b).view.emb x 1).val / 128 = b.val
    rw [h1]; omega
  · funext a
    refine Fin.ext ?_
    fin_cases a
    · have h2 : ((rowM c).view.emb x 0).val = 128 * c.val + (x 0).val := rowM_emb c x 0
      show 128 * c.val + ((colM b).view.emb x 0).val = ((rowM c).view.emb x 0).val
      rw [h2, h0]; omega
    · have h2 : ((rowM c).view.emb x 1).val = 0 + (x 1).val := rowM_emb c x 1
      show ((colM b).view.emb x 1).val % 128 = ((rowM c).view.emb x 1).val
      rw [h2, h1]; omega

/-- What device `b`'s transfer leaves in column block `b` of device `c`'s landing buffer is that of the gathered row block. -/
theorem landed_eq (c b : Dev nD) (f : Vec F S128x2048 .bf16) (i : S128x2048.Idx) (hi : i ∈ cols {b}) :
    (colM b).view.write (Elt F) f ((rowM c).view.read (Elt F) (bC m b)) Finset.univ i = rC m c i := by
  rw [← colM_set b] at hi
  obtain ⟨x, -, rfl⟩ := Finset.mem_map.mp hi
  obtain ⟨h1, h2⟩ := emb_src c b x
  unfold rC
  rw [View.write_emb_of_mem _ _ (Finset.mem_univ _), View.read_apply]
  show bC m b ((rowM c).view.emb x) = bC m (colBlk ((colM b).view.emb x)) (srcIdx c ((colM b).view.emb x))
  rw [h1, h2]

/-- 512 columns of the gathered row block from column `o` on; 512 rows of `w` from row `o` on. -/
def xg (c : Dev nD) (o : ℕ) (h : ∀ a, (![0, o] : Fin 2 → ℕ) a + S128x512.size a ≤ S128x2048.size a) : Vec F S128x512 .bf16 :=
  rM.view.readAt (Elt F) (Rect.unit (s := S128x2048) ![0, o] S128x512.size h).toLoadRect (rC m c)
/-- 512 rows of `w` from row `o` on. -/
def wg (c : Dev nD) (o : ℕ) (h : ∀ a, (![o, 0] : Fin 2 → ℕ) a + S512x2048.size a ≤ S2048x2048.size a) : Vec F S512x2048 .f32 :=
  wM.view.readAt (Elt F) (Rect.unit (s := S2048x2048) ![o, 0] S512x2048.size h).toLoadRect (wC m c)

/-- The accumulator after one, and after three, of the four products, and the result. -/
def acc1 (c : Dev nD) : Vec F S128x2048 .f32 :=
  k0_pay5 k0_pay4 (xg m c 0 inb_S128x2048_S128x512_0_0) (wg m c 0 inb_S2048x2048_S512x2048_0_0)
/-- The accumulator after three products. -/
def acc3 (c : Dev nD) : Vec F S128x2048 .f32 :=
  k0_pay6 (acc1 m c) (xg m c 512 inb_S128x2048_S128x512_0_512) (wg m c 512 inb_S2048x2048_S512x2048_512_0)
    (xg m c 1024 inb_S128x2048_S128x512_0_1024) (wg m c 1024 inb_S2048x2048_S512x2048_1024_0)
/-- The result. -/
def oC (c : Dev nD) : Vec F S128x2048 .f32 :=
  k0_pay7 (acc3 m c) (xg m c 1536 inb_S128x2048_S128x512_0_1536) (wg m c 1536 inb_S2048x2048_S512x2048_1536_0)

/-! ## The cells -/

/-- The runtime's barrier semaphore; local completion `i`; send cell `s`; receive cell `j`. -/
abbrev barS : Sem sig := (SemArray.scalar (sig.barrier 0 rfl) : Sems sig S_).sem
/-- Local completion `i`. -/
def locS (i : Fin 3) : DmaSem sig := ⟨i.val, by have := i.isLt; show _ < 35; omega⟩
/-- Send cell `s`. -/
def sndS (s : Fin 16) : DmaSem sig := ⟨3 + s.val, by have := s.isLt; show _ < 35; omega⟩
/-- Receive cell `j`. -/
def rcvS (j : Dev nD) : DmaSem sig := ⟨19 + j.val, by have h : j.val < 16 := j.isLt; show _ < 35; omega⟩

/-- Device `c`'s barrier. -/
abbrev barCell (c : Dev nD) : GSem nD τ sig := ((c : Thread nD τ), .reg barS)
/-- Device `c`'s local completion `i`. -/
abbrev locCell (c : Dev nD) (i : Fin 3) : GSem nD τ sig := ((c : Thread nD τ), .dma (locS i))
/-- Device `c`'s send cell `s`. -/
abbrev sndCell (c : Dev nD) (s : Fin 16) : GSem nD τ sig := ((c : Thread nD τ), .dma (sndS s))
/-- Device `c`'s receive cell `j`. -/
abbrev rcvCell (c j : Dev nD) : GSem nD τ sig := ((c : Thread nD τ), .dma (rcvS j))

/-- What each transfer credits. -/
abbrev N0 : ℕ := xM.view.dmaCredit
/-- What the copy of `w` credits. -/
abbrev N1 : ℕ := wM.view.dmaCredit
/-- What the copy of the result credits. -/
abbrev N2 : ℕ := oH.view.dmaCredit
/-- What a transfer of one block credits. -/
abbrev N : ℕ := (colM (0 : Fin 16)).view.dmaCredit

/-- The copy of `x` credits something. -/
theorem N0_pos : 0 < N0 := View.dmaCredit_pos _ (by decide)
/-- The copy of `w` credits something. -/
theorem N1_pos : 0 < N1 := View.dmaCredit_pos _ (by decide)
/-- The copy of the result credits something. -/
theorem N2_pos : 0 < N2 := View.dmaCredit_pos _ (by decide)
/-- A transfer of one block credits something. -/
theorem N_pos : 0 < N := View.dmaCredit_pos _ (by decide)

/-! ## The schedule -/

/-- Device `b`'s signal hands device `c` column block `c` of `b`'s landing buffer. -/
def barPay (c b : Dev nD) : sProp 𝕄 := iprop(∃ f, ((b : Thread nD τ).loc cc0_scratch3) ↦[cols {c}]{fullShare} f)
/-- The local copies: `x` in, `w` in, the result out — each both ends. -/
def xPay (c : Dev nD) : sProp 𝕄 :=
  iprop((((c : Thread nD τ).loc cc0_scratch0) ↦{fullShare} xC m c) ∗ (((c : Thread nD τ).loc main_arg0) ↦{fullShare} xC m c))
/-- The copy of `w` gives back both ends. -/
def wPay (c : Dev nD) : sProp 𝕄 :=
  iprop((((c : Thread nD τ).loc cc0_scratch2) ↦{fullShare} wC m c) ∗ (((c : Thread nD τ).loc main_arg1) ↦{fullShare} wC m c))
/-- The copy of the result gives back both ends. -/
def oPay (c : Dev nD) : sProp 𝕄 :=
  iprop((((c : Thread nD τ).loc main_v1) ↦{fullShare} oC m c) ∗ (((c : Thread nD τ).loc cc0_scratch4) ↦{fullShare} oC m c))
/-- The transfer to `b` read: row block `b` of the rounded block back. -/
def sndPay (c b : Dev nD) : sProp 𝕄 := ((c : Thread nD τ).loc cc0_scratch1) ↦[rows {b}]{fullShare} bC m c
/-- Device `j`'s transfer landed: column block `j` of the gathered row block. -/
def rcvPay (c j : Dev nD) : sProp 𝕄 := ((c : Thread nD τ).loc cc0_scratch3) ↦[cols {j}]{fullShare} rC m c

/-- What the DMA cell numbered `k` of device `c` delivers. -/
def dmaPay (c : Dev nD) (k : ℕ) : sProp 𝕄 :=
  if k = 0 then xPay m c else if k = 1 then wPay m c else if k = 2 then oPay m c
  else if k < 19 then sndPay m c (sh c (k - 3)) else rcvPay m c (sh 0 (k - 19))
/-- What the DMA cell numbered `k` is credited in all. -/
def dmaAmt (k : ℕ) : ℕ := if k = 0 then N0 else if k = 1 then N1 else if k = 2 then N2 else N

omit [FloatOps F] in
/-- Every DMA cell's amount is positive. -/
theorem dmaAmt_pos (k : ℕ) : 0 < dmaAmt k := by
  unfold dmaAmt; repeat' split
  · exact N0_pos
  · exact N1_pos
  · exact N2_pos
  · exact N_pos

/-- One round, round 0: a barrier cell has a duty of one unit from every other device; a DMA cell has the one duty `0` of
    its transfer's credit, but for send cell 0 and the device's own receive cell, which no transfer credits. -/
def xRd : Rounds.Schedule (GSem nD τ sig) (Dev nD) 𝕄 where
  duties g r := if r = 0 then (match g.2 with
    | .reg _ => others g.1.1
    | .dma k => if k.val = 3 ∨ k.val = 19 + g.1.1.val then ∅ else {(0 : Fin 16)}) else ∅
  unitless _ := False
  amount g _ _ := match g.2 with | .reg _ => 1 | .dma k => dmaAmt k.val
  payload g _ d := match g.2 with | .reg _ => barPay g.1.1 d | .dma k => dmaPay m g.1.1 k.val
  amount_pos g _ _ _ := by
    obtain ⟨_, _ | k⟩ := g
    · exact Nat.one_pos
    · exact dmaAmt_pos k.val

/-- Every payload may be stored in an invariant. -/
instance xRd_payload_storable (g : GSem nD τ sig) (r : ℕ) (d : Dev nD) :
    BI.Storable (upEmb : UEmb _ 𝕄) ((xRd (F := F) m).payload g r d) := by
  obtain ⟨t, _ | k⟩ := g
  · show BI.Storable upEmb (barPay t.1 d : sProp 𝕄)
    unfold barPay; infer_instance
  · show BI.Storable upEmb (dmaPay m t.1 k.val)
    unfold dmaPay xPay wPay oPay sndPay rcvPay
    (repeat' split) <;> infer_instance

/-- Counted from device 0, the device `j` places on is `j`. -/
theorem sh_zero_val (j : Dev nD) : sh 0 j.val = j := by revert j; decide

section Tables
variable (c : Dev nD)

/-- There is no duty after round 0. -/
theorem duties_later (g : GSem nD τ sig) : ∀ r, 1 ≤ r → (xRd (F := F) m).duties g r = ∅ := fun r hr => if_neg (by omega)
/-- A barrier has a duty of every other device. -/
theorem duties_bar : (xRd (F := F) m).duties (barCell c) 0 = others c := rfl
/-- A local completion has one duty. -/
theorem duties_loc (i : Fin 3) : (xRd (F := F) m).duties (locCell c i) 0 = {(0 : Fin 16)} :=
  if_neg (fun h => by have hi := i.isLt; have h' : i.val = 3 ∨ i.val = 19 + c.val := h; omega)
/-- A send cell that is used has one duty. -/
theorem duties_snd (s : Fin 16) (hs : s ≠ 0) : (xRd (F := F) m).duties (sndCell c s) 0 = {(0 : Fin 16)} :=
  if_neg (fun h => by
    have hi := s.isLt; have h' : 3 + s.val = 3 ∨ 3 + s.val = 19 + c.val := h
    have h0 : s.val ≠ 0 := fun e => hs (Fin.ext e)
    omega)
/-- A receive cell that is used has one duty. -/
theorem duties_rcv (j : Dev nD) (hj : c ≠ j) : (xRd (F := F) m).duties (rcvCell c j) 0 = {(0 : Fin 16)} :=
  if_neg (fun h => by
    have h' : 19 + j.val = 3 ∨ 19 + j.val = 19 + c.val := h
    have h0 : j.val ≠ c.val := fun e => hj (Fin.ext e.symm)
    omega)
/-- Send cell 0 and the device's own receive cell have no duty at all. -/
theorem duties_snd_zero : ∀ r, 0 ≤ r → (xRd (F := F) m).duties (sndCell c 0) r = ∅ := fun r _ => by
  by_cases hr : r = 0
  · subst hr
    show (if 3 = 3 ∨ 3 = 19 + c.val then ∅ else {(0 : Fin 16)}) = (∅ : Finset (Dev nD))
    exact if_pos (Or.inl rfl)
  · exact if_neg hr
/-- The device's own receive cell has no duty. -/
theorem duties_rcv_self : ∀ r, 0 ≤ r → (xRd (F := F) m).duties (rcvCell c c) r = ∅ := fun r _ => by
  by_cases hr : r = 0
  · subst hr
    show (if 19 + c.val = 3 ∨ 19 + c.val = 19 + c.val then ∅ else {(0 : Fin 16)}) = (∅ : Finset (Dev nD))
    exact if_pos (Or.inr rfl)
  · exact if_neg hr

/-- A signal is of one unit. -/
theorem amount_bar (d : Dev nD) : (xRd (F := F) m).amount (barCell c) 0 d = 1 := rfl
/-- A send cell is credited one block. -/
theorem amount_snd (s : Fin 16) (d : Dev nD) : (xRd (F := F) m).amount (sndCell c s) 0 d = N := by
  show dmaAmt (3 + s.val) = N
  unfold dmaAmt; rw [if_neg (by omega), if_neg (by omega), if_neg (by omega)]
/-- A receive cell is credited one block. -/
theorem amount_rcv (j d : Dev nD) : (xRd (F := F) m).amount (rcvCell c j) 0 d = N := by
  show dmaAmt (19 + j.val) = N
  unfold dmaAmt; rw [if_neg (by omega), if_neg (by omega), if_neg (by omega)]

/-- A barrier is signalled fifteen times. -/
theorem expect_bar : (xRd (F := F) m).expect (barCell c) 0 = 15 := by
  unfold Schedule.expect Schedule.amountOf
  rw [duties_bar, Finset.sum_congr rfl fun d _ => amount_bar m c d, Finset.sum_const, Finset.card_erase_of_mem (Finset.mem_univ _),
    Finset.card_univ, Fintype.card_fin]
  rfl
/-- What a local completion is credited in all. -/
theorem expect_loc (i : Fin 3) : (xRd (F := F) m).expect (locCell c i) 0 = dmaAmt i.val := by
  unfold Schedule.expect Schedule.amountOf; rw [duties_loc, Finset.sum_singleton]; rfl
/-- What a send cell is credited in all. -/
theorem expect_snd (s : Fin 16) (hs : s ≠ 0) : (xRd (F := F) m).expect (sndCell c s) 0 = N := by
  unfold Schedule.expect Schedule.amountOf; rw [duties_snd m c s hs, Finset.sum_singleton, amount_snd]
/-- What a receive cell is credited in all. -/
theorem expect_rcv (j : Dev nD) (hj : c ≠ j) : (xRd (F := F) m).expect (rcvCell c j) 0 = N := by
  unfold Schedule.expect Schedule.amountOf; rw [duties_rcv m c j hj, Finset.sum_singleton, amount_rcv]

/-- What a signal hands over. -/
theorem payload_bar (b : Dev nD) : (xRd (F := F) m).payload (barCell c) 0 b = barPay c b := rfl
/-- What a local completion hands over. -/
theorem payload_loc (i : Fin 3) (d : Dev nD) : (xRd (F := F) m).payload (locCell c i) 0 d = dmaPay m c i.val := rfl
/-- What a send cell hands over. -/
theorem payload_snd (s : Fin 16) (d : Dev nD) : (xRd (F := F) m).payload (sndCell c s) 0 d = sndPay m c (sh c s.val) := by
  have hs := s.isLt
  show dmaPay m c (3 + s.val) = _
  unfold dmaPay; rw [if_neg (by omega), if_neg (by omega), if_neg (by omega), if_pos (by omega), Nat.add_sub_cancel_left]
/-- What a receive cell hands over. -/
theorem payload_rcv (j d : Dev nD) : (xRd (F := F) m).payload (rcvCell c j) 0 d = rcvPay m c j := by
  show dmaPay m c (19 + j.val) = _
  unfold dmaPay; rw [if_neg (by omega), if_neg (by omega), if_neg (by omega), if_neg (by omega), Nat.add_sub_cancel_left, sh_zero_val]

/-- What a whole round delivers. -/
theorem rest_bar : bigSep ((xRd (F := F) m).duties (barCell c) 0 \ ∅) (fun d => (xRd (F := F) m).payload (barCell c) 0 d)
    = bigSep (others c) fun b => barPay c b := by rw [Finset.sdiff_empty]; rfl
/-- All that a local completion hands over. -/
theorem rest_loc (i : Fin 3) : bigSep ((xRd (F := F) m).duties (locCell c i) 0 \ ∅) (fun d => (xRd (F := F) m).payload (locCell c i) 0 d)
    = dmaPay m c i.val := by rw [Finset.sdiff_empty, duties_loc, bigSep_singleton, payload_loc]
/-- All that a send cell hands over. -/
theorem rest_snd (s : Fin 16) (hs : s ≠ 0) :
    bigSep ((xRd (F := F) m).duties (sndCell c s) 0 \ ∅) (fun d => (xRd (F := F) m).payload (sndCell c s) 0 d) = sndPay m c (sh c s.val) := by
  rw [Finset.sdiff_empty, duties_snd m c s hs, bigSep_singleton, payload_snd]
/-- All that a receive cell hands over. -/
theorem rest_rcv (j : Dev nD) (hj : c ≠ j) :
    bigSep ((xRd (F := F) m).duties (rcvCell c j) 0 \ ∅) (fun d => (xRd (F := F) m).payload (rcvCell c j) 0 d) = rcvPay m c j := by
  rw [Finset.sdiff_empty, duties_rcv m c j hj, bigSep_singleton, payload_rcv]

end Tables

/-! ## What each device owes at launch; the levels -/

/-- The credits of the transfers to the devices `J`, and the signals to them. -/
def oweSnd (c : Dev nD) (J : Finset (Dev nD)) : CellTallies nD τ sig Unit := ∑ b ∈ J, tallyAt (rcvCell b c) () N
/-- The signals to the devices `J`. -/
def oweBar (J : Finset (Dev nD)) : CellTallies nD τ sig Unit := ∑ b ∈ J, tallyAt (barCell b) () 1
/-- At the start a device owes every other device a signal and a block. -/
def O₀ (c : Dev nD) : CellTallies nD τ sig Unit := oweSnd c (others c) + oweBar (others c)

/-- The credits are counted on the TensorCores' cells. -/
def L (g : GSem nD τ sig) : Finset Unit := if g.1.2 = .tc then {()} else ∅
/-- A local or send cell 0, a barrier cell 1, a receive cell 2. -/
def lv (g : GSem nD τ sig) (_ : Unit) : ℕ := match g.2 with | .reg _ => 1 | .dma k => if 19 ≤ k.val then 2 else 0

/-- Elsewhere nothing is counted. -/
theorem L_of_ne (g : GSem nD τ sig) (h : g.1.2 ≠ .tc) : L g = ∅ := if_neg h
/-- On a TensorCore's cell there is the one count. -/
theorem L_tc (c : Dev nD) (sm : SemLoc sig) : L ((c : Thread nD τ), sm) = {()} := if_pos rfl

/-- Owing one more device a block. -/
theorem oweSnd_insert (c : Dev nD) {b : Dev nD} {J : Finset (Dev nD)} (hb : b ∉ J) :
    oweSnd c (insert b J) = oweSnd c J + tallyAt (rcvCell b c) () N := by unfold oweSnd; rw [Finset.sum_insert hb, add_comm]
/-- Owing one more device a signal. -/
theorem oweBar_insert {b : Dev nD} {J : Finset (Dev nD)} (hb : b ∉ J) :
    oweBar (insert b J) = oweBar J + tallyAt (barCell b) () 1 := by unfold oweBar; rw [Finset.sum_insert hb, add_comm]

/-- Owing blocks to the devices `J`, device `c` owes nothing but their receive cells for `c`. -/
theorem oweSnd_pos {c : Dev nD} {J : Finset (Dev nD)} {g : GSem nD τ sig} {u : Unit} (h : 0 < oweSnd c J g u) : ∃ b ∈ J, g = rcvCell b c := by
  unfold oweSnd at h
  rw [Finset.sum_apply, Finsupp.finset_sum_apply] at h
  obtain ⟨b, hb, h⟩ := Finset.exists_ne_zero_of_sum_ne_zero (Nat.pos_iff_ne_zero.mp h)
  refine ⟨b, hb, ?_⟩
  by_contra hn
  rw [tallyAt_apply, if_neg (fun h' => hn h'.1)] at h
  exact h rfl

omit [FloatOps F] in
/-- A device that owes transfers only may wait on its barrier and on its local completions: a receive cell lies above. -/
theorem mayWait (c : Dev nD) (J : Finset (Dev nD)) (sm : SemLoc sig) (h : lv ((c : Thread nD τ), sm) () ≤ 1) :
    (levAts L lv : sProp 𝕄) ⊢ MayWait (c : Thread nD τ) sm () (oweSnd c J) :=
  MayOwe.of_cut (L := L) (lev := lv) 1 (fun p hp => by rw [Finset.mem_singleton.mp hp, L_tc]; exact Finset.mem_singleton_self _)
    (fun g u hg => by obtain ⟨b, -, rfl⟩ := oweSnd_pos hg; exact Finset.mem_singleton_self _)
    (fun p hp => by rw [Finset.mem_singleton.mp hp]; exact h)
    (fun g u hg => by
      obtain ⟨b, -, rfl⟩ := oweSnd_pos hg
      show 1 < if 19 ≤ 19 + c.val then 2 else 0
      rw [if_pos (by omega)]; decide)

/-! ## Splitting a buffer by blocks -/

omit [FloatOps F] in
/-- A buffer over the blocks `b` and `J` is one over `b` and one over `J`. -/
theorem pts_insert {ℓ : Loc nD τ sig} (g : Idx ℓ → Dev nD) {b : Dev nD} {J : Finset (Dev nD)} (hb : b ∉ J) (f : Buf (Elt F) ℓ) :
    (ℓ ↦[fib g (insert b J)]{fullShare} f : sProp 𝕄) ⊣⊢ iprop((ℓ ↦[fib g {b}]{fullShare} f) ∗ (ℓ ↦[fib g J]{fullShare} f)) := by
  rw [fib_insert]; exact pointsTo_union (fib_disjoint g hb)

end Cert.KernelIdeal.Exchange

end
-- ==== Proof.Steps.lean ====
/-
# One step of the exchange at a time

The states a device goes through while it signals, sends, receives and waits for its sends, each indexed by how far it
has come, and the rule of each operation as a step from one state to the next.
-/
module

public import proofs.«01_k».proof.Proof.Sched

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The program has no loop that needs a variant. -/
abbrev 𝒱₀ : Variants := Variants.none

/-! ## What every device knows: the invariant of each cell, and that each is at round 0 -/

/-- A device's cells: its barrier, and its DMA semaphores. -/
abbrev csem : Option (DmaSem sig) → SemLoc sig := fun o => match o with | none => .reg barS | some k => .dma k
/-- A cell, by its device and its name there. -/
abbrev kcell (ck : Dev nD × Option (DmaSem sig)) : GSem nD τ sig := ((ck.1 : Thread nD τ), csem ck.2)

/-- Every cell's invariant, that it is at round 0, and the levels. -/
def records (K : Dev nD × Option (DmaSem sig) → ℕ) : sProp 𝕄 :=
  iprop((bigSep Finset.univ fun ck => cellInv ER (xRd m) (K ck) (kcell ck)) ∗ (bigSep Finset.univ fun ck => reached ER (kcell ck) 0) ∗ levAts L lv)

/-- The records may be used any number of times. -/
instance records_persistent (K : Dev nD × Option (DmaSem sig) → ℕ) : BI.Persistent (records m K) := by unfold records; infer_instance

variable (K : Dev nD × Option (DmaSem sig) → ℕ)

omit [FloatOps F] in
/-- One cell's entry in the records. -/
theorem inv_of' (ck : Dev nD × Option (DmaSem sig)) [FloatOps F] : records m K ⊢ iprop(cellInv ER (xRd m) (K ck) (kcell ck) ∗ reached ER (kcell ck) 0) := by
  unfold records
  iintro ⟨#HI, #HR, -⟩
  isplitr
  · iapply (show (bigSep Finset.univ fun ck => (cellInv ER (xRd m) (K ck) (kcell ck) : sProp 𝕄)) ⊢ cellInv ER (xRd m) (K ck) (kcell ck) from
      bigSep_elim (Finset.mem_univ ck)); iexact HI
  · iapply (show (bigSep Finset.univ fun ck => (reached ER (kcell ck) 0 : sProp 𝕄)) ⊢ reached ER (kcell ck) 0 from
      bigSep_elim (Finset.mem_univ ck)); iexact HR

/-- A barrier's entry. -/
theorem inv_bar (c : Dev nD) : records m K ⊢ iprop(cellInv ER (xRd m) (K (c, none)) (barCell c) ∗ reached ER (barCell c) 0) := inv_of' m K (c, none)
/-- A DMA cell's entry. -/
theorem inv_dma (c : Dev nD) (k : DmaSem sig) :
    records m K ⊢ iprop(cellInv ER (xRd m) (K (c, some k)) ((c : Thread nD τ), .dma k) ∗ reached ER ((c : Thread nD τ), .dma k) 0) := inv_of' m K (c, some k)
/-- The levels. -/
theorem levs : records m K ⊢ levAts L lv := by
  unfold records; iintro ⟨-, -, #H⟩; iexact H

/-- What a device owes, whatever it has waited on. -/
def ow (c : Dev nD) (O : CellTallies nD τ sig Unit) : sProp 𝕄 := iprop(∃ W, owes (c : Thread nD τ) O W)

omit [FloatOps F] in
/-- A resource for each of `s` and one more thing is that thing's and those of `s`. -/
theorem bigSep_ins {I : Type} [DecidableEq I] {i : I} {s : Finset I} (h : i ∉ s) (Φ : I → sProp 𝕄) :
    bigSep (insert i s) Φ = iprop(Φ i ∗ bigSep s Φ) := bigSep_insert h

/-! ## Signalling -/

/-- Before the signals to the devices more than `s` places on: it still owes them, holds their tokens, and of its landing
    buffer their column blocks and its own. -/
def SigSt (c : Dev nD) (s : ℕ) : sProp 𝕄 :=
  iprop(records m K ∗ ow c (oweSnd c (others c) + oweBar (rem c s)) ∗ (bigSep (rem c s) fun b => dutyTok ER (barCell b) 0 c)
    ∗ ∃ f, ((c : Thread nD τ).loc cc0_scratch3) ↦[cols (insert c (rem c s))]{fullShare} f)

/-- The signal to the device `s'` places on, which hands over that device's column block of this one's landing buffer. -/
theorem step_signal (c : Dev nD) (s s' : ℕ) (hs : s < 15 ∧ s' = s + 1) (n : Dev nD) (hn : n.val = (c.val + s') % 16) {a : ℕ} (ha : a = 1)
    {α : Type} {Q : α → sProp 𝕄} {k : PUnit → Prog (TpuEff nD τ sig (Elt F) Λ₀ .tc) α} :
    SigSt m K c s ⊢ iprop((SigSt m K c s' -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n : Thread nD τ) barS a) k) Q) := by
  obtain ⟨hs, rfl⟩ := hs
  subst ha
  obtain rfl : n = sh c (s + 1) := Fin.ext hn
  have hnm : sh c (s + 1) ∉ rem c (s + 1) := sh_not_mem_rem c ⟨s, hs⟩
  have hne : c ≠ sh c (s + 1) := fun h => sh_ne c ⟨s + 1, by omega⟩ (fun e => by have := congrArg Fin.val e; simp at this) h.symm
  unfold SigSt ow
  rw [show rem c s = insert (sh c (s + 1)) (rem c (s + 1)) from rem_succ c ⟨s, hs⟩, oweBar_insert hnm, bigSep_ins hnm]
  iintro ⟨#HR, ⟨%W, HO⟩, ⟨Htok, Htoks⟩, ⟨%f, Hf⟩⟩ Hk
  ihave Hf' := (Entails.of_eq (show (((c : Thread nD τ).loc cc0_scratch3) ↦[cols (insert c (insert (sh c (s + 1)) (rem c (s + 1))))]{fullShare} f : sProp 𝕄)
      = (((c : Thread nD τ).loc cc0_scratch3) ↦[cols (insert (sh c (s + 1)) (insert c (rem c (s + 1))))]{fullShare} f) from by
        rw [Finset.insert_comm])) $$ Hf
  ihave Hf2 := (pts_insert (ℓ := (c : Thread nD τ).loc cc0_scratch3) colBlk (b := sh c (s + 1)) (J := insert c (rem c (s + 1)))
    (by rw [Finset.mem_insert, not_or]; exact ⟨fun h => hne h.symm, hnm⟩) f).1 $$ Hf'
  icases Hf2 with ⟨Hb, Hrest⟩
  ihave HI := (inv_bar m K (sh c (s + 1))) $$ HR
  icases HI with ⟨#HI, #Hre⟩
  iapply (Rounds.wp_signal 𝒱₀ ER (xRd m) (c : Thread nD τ) none (dst := (sh c (s + 1) : Thread nD τ)) (κ := K (sh c (s + 1), none))
      (d := c) (by rw [duties_bar]; exact Finset.mem_erase.2 ⟨hne, Finset.mem_univ _⟩) (amount_bar m (sh c (s + 1)) c) ()
      (oweSnd c (others c) + oweBar (rem c (s + 1))) (by rw [add_assoc])) $$ [HO Htok Hb]
  · isplitr; · iexact HI
    isplitl [HO]; · iexact HO
    isplitl [Htok]; · iexact Htok
    isplitl [Hb]
    · rw [payload_bar]; unfold barPay; iexists f; iexact Hb
    · iexact Hre
  iintro HO
  iapply Hk
  isplitr; · iexact HR
  isplitl [HO]; · iexists W; iexact HO
  isplitl [Htoks]; · iexact Htoks
  iexists f; iexact Hrest

/-! ## Sending -/

/-- The devices at most `s` places on, other than itself: those sent to. -/
def sent (c : Dev nD) (s : ℕ) : Finset (Dev nD) := others c \ rem c s

/-- After step `s + 1` one more device has been sent to. -/
theorem sent_succ (c : Dev nD) (s : Fin 15) : sent c (s.val + 1) = insert (sh c (s.val + 1)) (sent c s.val) := by revert c s; decide
/-- The device whose turn it is has not been sent to. -/
theorem sh_not_mem_sent (c : Dev nD) (s : Fin 15) : sh c (s.val + 1) ∉ sent c s.val := by revert c s; decide
/-- At the start no device has been sent to. -/
theorem sent_zero (c : Dev nD) : sent c 0 = ∅ := by revert c; decide
/-- After fifteen steps every other device has. -/
theorem sent_last (c : Dev nD) : sent c 15 = others c := by revert c; decide

/-- Before the transfers to the devices more than `s` places on: it still owes them, and holds for each its two tokens, the
    column block it lands in and the row block it reads; the earlier transfers' credits it holds too. -/
def SndSt (c : Dev nD) (s : ℕ) : sProp 𝕄 :=
  iprop(records m K ∗ ow c (oweSnd c (rem c s))
    ∗ (bigSep (rem c s) fun b => iprop(dutyTok ER (rcvCell b c) 0 (0 : Fin 16) ∗ dutyTok ER (sndCell c (dist c b)) 0 (0 : Fin 16) ∗ barPay c b))
    ∗ (bigSep (sent c s) fun b => cred (tallyAt (sndCell c (dist c b)) () N))
    ∗ (((c : Thread nD τ).loc cc0_scratch1) ↦[rows (insert c (rem c s))]{fullShare} bC m c))

/-- Entry `s` lies in an array of sixteen semaphores. -/
theorem inbS16 (s : Fin 16) : ∀ a, (![s.val] : Fin 1 → ℕ) a + S1.size a ≤ S16.size a := by
  intro a; have hs := s.isLt
  fin_cases a
  show s.val + 1 ≤ 16
  omega
/-- The program's slices of the send semaphores. -/
theorem sem_snd' : ∀ s : Fin 16,
    ((cc0_scratch6.slice (Rect.unit (s := S16) ![s.val] S1.size (inbS16 s))).squeeze S_ squeezes_S1_S_).sem = sndS s := by decide +kernel
/-- The program's slices of the receive semaphores. -/
theorem sem_rcv' : ∀ j : Fin 16,
    ((cc0_scratch7.slice (Rect.unit (s := S16) ![j.val] S1.size (inbS16 j))).squeeze S_ squeezes_S1_S_).sem = rcvS j := by decide +kernel
/-- The semaphores the program slices out of its arrays. -/
theorem sem_snd (s : ℕ) (hs : s < 16) (h : ∀ a, (![s] : Fin 1 → ℕ) a + S1.size a ≤ S16.size a) :
    ((cc0_scratch6.slice (Rect.unit (s := S16) ![s] S1.size h)).squeeze S_ squeezes_S1_S_).sem = sndS ⟨s, hs⟩ := sem_snd' ⟨s, hs⟩
/-- The same, for the receive semaphores. -/
theorem sem_rcv (j : ℕ) (hj : j < 16) (h : ∀ a, (![j] : Fin 1 → ℕ) a + S1.size a ≤ S16.size a) :
    ((cc0_scratch7.slice (Rect.unit (s := S16) ![j] S1.size h)).squeeze S_ squeezes_S1_S_).sem = rcvS ⟨j, hj⟩ := sem_rcv' ⟨j, hj⟩

/-- The transfer to the device `s'` places on. -/
theorem step_send (c : Dev nD) (s s' : ℕ) (hs : s < 15 ∧ s' = s + 1) (n : Dev nD) (hn : n.val = (c.val + s') % 16)
    {o1 : Fin 1 → ℕ} {o2 o3 : Fin 2 → ℕ} (ho1 : o1 = ![c.val]) (ho2 : o2 = ![0, 128 * c.val]) (ho3 : o3 = ![128 * ((c.val + s') % 16), 0])
    {i1 : ∀ a, o1 a + S1.size a ≤ S16.size a} {i2 : ∀ a, o2 a + S128x128.size a ≤ S128x2048.size a}
    {i3 : ∀ a, o3 a + S128x128.size a ≤ S2048x128.size a} {is : ∀ a, (![s'] : Fin 1 → ℕ) a + S1.size a ≤ S16.size a}
    {hsc : (rM.slice (Rect.unit (s := S128x2048) o2 S128x128.size i2) (fun _ => rfl) : Memref sig .tc .vmem S128x128 .bf16).view.ref.isScScratch = false}
    {hsrc hdst hsem}
    {α : Type} {Q : α → sProp 𝕄} {k : PUnit → Prog (TpuEff nD τ sig (Elt F) Λ₀ .tc) α} :
    SndSt m K c s ⊢ iprop((SndSt m K c s' -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (bM.slice (Rect.unit (s := S2048x128) o3 S128x128.size i3) (fun _ => rfl))
          (.remote (Dev.tc n : Thread nD τ) (rM.slice (Rect.unit (s := S128x2048) o2 S128x128.size i2) (fun _ => rfl))
            (.dma ((cc0_scratch6.slice (Rect.unit (s := S16) ![s'] S1.size is)).squeeze S_ squeezes_S1_S_).sem) hsc)
          (.dma ((cc0_scratch7.slice (Rect.unit (s := S16) o1 S1.size i1)).squeeze S_ squeezes_S1_S_).sem) hsrc hdst hsem) k) Q) := by
  obtain ⟨hs, rfl⟩ := hs
  obtain rfl : n = sh c (s + 1) := Fin.ext hn
  subst ho1 ho2 ho3
  have hnm : sh c (s + 1) ∉ rem c (s + 1) := sh_not_mem_rem c ⟨s, hs⟩
  have hns : sh c (s + 1) ∉ sent c s := sh_not_mem_sent c ⟨s, hs⟩
  have hne : sh c (s + 1) ≠ c := sh_ne c ⟨s + 1, by omega⟩ (fun e => by have := congrArg Fin.val e; simp at this)
  have hd : dist c (sh c (s + 1)) = ⟨s + 1, by omega⟩ := dist_sh c ⟨s + 1, by omega⟩
  have hd0 : dist c (sh c (s + 1)) ≠ 0 := fun h => hne ((dist_eq_zero _ _).1 h)
  unfold SndSt ow
  rw [show rem c s = insert (sh c (s + 1)) (rem c (s + 1)) from rem_succ c ⟨s, hs⟩, oweSnd_insert c hnm, bigSep_ins hnm,
    show sent c (s + 1) = insert (sh c (s + 1)) (sent c s) from sent_succ c ⟨s, hs⟩, bigSep_ins hns]
  revert hsem
  rw [sem_snd (s + 1) (by omega), sem_rcv c.val c.isLt, show sndS ⟨s + 1, by omega⟩ = sndS (dist c (sh c (s + 1))) from by rw [hd]]
  intro hsem
  iintro ⟨#HR, ⟨%W, HO⟩, ⟨⟨Htr, Hts, Hbar⟩, Htoks⟩, Hcr, Hf⟩ Hk
  ihave Hf' := (Entails.of_eq (show (((c : Thread nD τ).loc cc0_scratch1) ↦[rows (insert c (insert (sh c (s + 1)) (rem c (s + 1))))]{fullShare} bC m c : sProp 𝕄)
      = (((c : Thread nD τ).loc cc0_scratch1) ↦[rows (insert (sh c (s + 1)) (insert c (rem c (s + 1))))]{fullShare} bC m c) from by
        rw [Finset.insert_comm])) $$ Hf
  ihave Hf2 := (pts_insert (ℓ := (c : Thread nD τ).loc cc0_scratch1) rowBlk (b := sh c (s + 1)) (J := insert c (rem c (s + 1)))
    (by rw [Finset.mem_insert, not_or]; exact ⟨hne, hnm⟩) (bC m c)).1 $$ Hf'
  icases Hf2 with ⟨Hb, Hrest⟩
  unfold barPay
  icases Hbar with ⟨%fd, Hd⟩
  ihave HI1 := (inv_dma m K c (sndS (dist c (sh c (s + 1))))) $$ HR
  icases HI1 with ⟨#HI1, #Hre1⟩
  ihave HI2 := (inv_dma m K (sh c (s + 1)) (rcvS c)) $$ HR
  icases HI2 with ⟨#HI2, #Hre2⟩
  iapply (Rounds.wp_send_pointsTo 𝒱₀ ER (xRd m) (c : Thread nD τ) none (c' := (sh c (s + 1) : Thread nD τ)) (src := rowM (sh c (s + 1))) (dst := colM c)
      (κ₁ := K (c, some (sndS (dist c (sh c (s + 1)))))) (κ₂ := K (sh c (s + 1), some (rcvS c)))
      (r₁ := 0) (r₂ := 0) (d₁ := (0 : Fin 16)) (d₂ := (0 : Fin 16)) (fs := bC m c) (fd := fd) (q := fullShare)
      (by rw [duties_snd m c _ hd0]; exact Finset.mem_singleton_self _)
      (by rw [duties_rcv m _ c hne]; exact Finset.mem_singleton_self _)
      () () N rfl (amount_snd m c _ _) (amount_rcv m _ c _) (oweSnd c (rem c (s + 1))) rfl (W := W)
      (by rw [payload_snd, sh_dist, rowM_set]; unfold sndPay; exact BI.Entails.refl _)
      (by rw [payload_rcv, colM_set]; unfold rcvPay
          exact Entails.of_eq (pointsTo_congr fun i hi => landed_eq m (sh c (s + 1)) c fd i hi))) $$ [HO Htr Hts Hd Hb]
  · isplitr; · iexact HI1
    isplitr; · iexact HI2
    isplitl [Hb]; · rw [rowM_set]; iexact Hb
    isplitl [Hd]; · rw [colM_set]; iexact Hd
    isplitl [HO]; · iexact HO
    isplitl [Hts]; · iexact Hts
    isplitr; · iexact Hre1
    isplitl [Htr]; · iexact Htr
    iexact Hre2
  iintro ⟨Hc, HO⟩
  iapply Hk
  isplitr; · iexact HR
  isplitl [HO]; · iexists W; iexact HO
  isplitl [Htoks]; · iexact Htoks
  isplitl [Hc Hcr]
  · isplitl [Hc] <;> iassumption
  iexact Hrest

/-- All transfers still to be made: every other device's column block, and the rounded block whole. -/
theorem snd_start (c : Dev nD) :
    iprop(records m K ∗ ow c (oweSnd c (others c)) ∗ (bigSep (others c) fun b => dutyTok ER (rcvCell b c) 0 (0 : Fin 16))
      ∗ (bigSep (others c) fun b => dutyTok ER (sndCell c (dist c b)) 0 (0 : Fin 16)) ∗ (bigSep (others c) fun b => barPay c b)
      ∗ (((c : Thread nD τ).loc cc0_scratch1) ↦{fullShare} bC m c)) ⊢ SndSt m K c 0 := by
  unfold SndSt
  rw [rem_zero, sent_zero, Finset.insert_erase (Finset.mem_univ c), rows, fib_univ, bigSep_sep', bigSep_sep']
  iintro ⟨#HR, HO, H1, H2, H3, Hf⟩
  isplitr; · iexact HR
  isplitl [HO]; · iexact HO
  isplitl [H1 H2 H3]
  · isplitl [H1]; · iexact H1
    isplitl [H2] <;> iassumption
  isplitr
  · rw [bigSep_empty]; iempintro
  iexact Hf

/-! ## Receiving -/

/-- Before the waits for the blocks from number `n` on: their credits and positions are held; the earlier cells are closed, and of
    the gathered row block the earlier column blocks and the device's own are there. -/
def RcvSt (c : Dev nD) (n : ℕ) : sProp 𝕄 :=
  iprop(records m K ∗ ow c 0
    ∗ (bigSep (upto c n) fun j => iprop(cred (tallyAt (rcvCell c j) () N) ∗ atPos ER (rcvCell c j) 0 ∅ 0))
    ∗ (bigSep (upto c n)ᶜ fun j => semVal (rcvCell c j) 0)
    ∗ (((c : Thread nD τ).loc cc0_scratch3) ↦[cols (upto c n)ᶜ]{fullShare} rC m c))

/-- One more block received. -/
theorem compl_upto_succ (c j : Dev nD) (h : c ≠ j) : (upto c (j.val + 1))ᶜ = insert j (upto c j.val)ᶜ := by revert c j; decide
/-- The block to be received isn't there. -/
theorem not_mem_compl_upto (c j : Dev nD) (h : c ≠ j) : j ∉ (upto c j.val)ᶜ := by revert c j; decide
/-- At the start the device's own block is there. -/
theorem compl_upto_zero (c : Dev nD) : (upto c 0)ᶜ = {c} := by revert c; decide
/-- At the end every block is. -/
theorem compl_upto_last (c : Dev nD) : (upto c 16)ᶜ = Finset.univ := by revert c; decide

/-- The wait for device `j`'s block, skipped on device `j` itself. -/
theorem step_recv (c : Dev nD) (j j' : ℕ) (hj : j < 16 ∧ j' = j + 1) {cond : Prop} [Decidable cond] (hc : cond ↔ c ≠ (⟨j, hj.1⟩ : Fin 16))
    {src : Memref sig .tc .vmem S128x128 .bf16} {o : ℕ} {io : ∀ a, (![0, o] : Fin 2 → ℕ) a + S128x128.size a ≤ S128x2048.size a} {h1 h2}
    {is : ∀ a, (![j] : Fin 1 → ℕ) a + S1.size a ≤ S16.size a}
    {α : Type} {Q : α → sProp 𝕄} {k : Prog (TpuEff nD τ sig (Elt F) Λ₀ .tc) α} :
    RcvSt m K c j ⊢ iprop((RcvSt m K c j' -∗ wp frame (wpE (defs₀ (F := F)) 𝒱₀ (c : Thread nD τ) none) Set.univ (k) Q)
      -∗ wp frame (wpE (defs₀ (F := F)) 𝒱₀ (c : Thread nD τ) none) Set.univ (if _h : cond then .op (.waitDma2 ((cc0_scratch7.slice (Rect.unit (s := S16) ![j] S1.size is)).squeeze S_ squeezes_S1_S_).sem src (rM.slice (Rect.unit (s := S128x2048) ![0, o] S128x128.size io) (fun _ => rfl)) h1 h2) (fun _ => k)
          else k) Q) := by
  obtain ⟨hj, rfl⟩ := hj
  by_cases hcj : c = (⟨j, hj⟩ : Fin 16)
  · rw [dif_neg (fun h => (hc.1 h) hcj)]
    have hs : upto c j = upto c (j + 1) := by
      have h := upto_skip c
      rwa [show c.val = j from congrArg Fin.val hcj] at h
    unfold RcvSt
    rw [hs]
    iintro H Hk
    iapply Hk; iexact H
  · rw [dif_pos (hc.2 hcj), sem_rcv j hj]
    generalize hb : (⟨j, hj⟩ : Fin 16) = b at hcj ⊢
    obtain rfl : j = b.val := congrArg Fin.val hb
    have hnm := not_mem_upto c b
    have hnc := not_mem_compl_upto c b hcj
    unfold RcvSt ow
    rw [compl_upto_succ c b hcj]
    generalize (upto c b.val)ᶜ = U at hnc ⊢
    rw [upto_succ c b hcj, bigSep_ins hnm]
    iintro ⟨#HR, ⟨%W, HO⟩, ⟨⟨Hcr, Hat⟩, Hrest⟩, Hz, Hf⟩ Hk
    ihave HI := (inv_dma m K c (rcvS b)) $$ HR
    icases HI with ⟨#HI, -⟩
    iapply (Rounds.wp_wait_rest_token 𝒱₀ ER (xRd m) (c : Thread nD τ) none (κ := K (c, some (rcvS b)))
      (wpE_waitDma2_eq 𝒱₀ (c : Thread nD τ) none Set.univ) (Set.mem_univ _) () (O := 0) (W := W) (R := 0) (m := 0) (T := ∅)
      (by rw [Nat.zero_add, expect_rcv m c b hcj]; rfl)) $$ [Hcr HO Hat]
    · isplitr; · iexact HI
      isplitl [Hcr]; · iexact Hcr
      isplitl [HO]; · iexact HO
      isplitr; · rw [MayWait_zero]; iempintro
      iexact Hat
    iintro ⟨HO, Hat, -, Hpay⟩
    ihave Hb := (Entails.of_eq (rest_rcv m c b hcj)) $$ Hpay
    imod (Rounds.cell_close ER (xRd m) (Set.mem_univ (K (c, some (rcvS b)))) (fun h => h) (R := 0 + 1) (duties_later m (rcvCell c b))) $$ [Hat] with Hzb
    · isplitr; · iexact HI
      iexact Hat
    iapply Hk
    isplitr; · iexact HR
    isplitl [HO]; · iexists _; iexact HO
    isplitl [Hrest]; · iexact Hrest
    isplitl [Hz Hzb]
    · iapply (Entails.of_eq (bigSep_ins hnc (fun j => (semVal (rcvCell c j) 0 : sProp 𝕄))).symm)
      isplitl [Hzb] <;> iassumption
    · iapply (pts_insert (ℓ := (c : Thread nD τ).loc cc0_scratch3) colBlk hnc (rC m c)).2
      unfold rcvPay
      isplitl [Hb] <;> iassumption

/-! ## Waiting for the sends -/

/-- After the waits for the first `s` sends: their cells are closed and their row blocks back. -/
def SwSt (c : Dev nD) (s : ℕ) : sProp 𝕄 :=
  iprop(records m K ∗ ow c 0
    ∗ (bigSep (rem c s) fun b => iprop(cred (tallyAt (sndCell c (dist c b)) () N) ∗ atPos ER (sndCell c (dist c b)) 0 ∅ 0))
    ∗ (bigSep (sent c s) fun b => semVal (sndCell c (dist c b)) 0)
    ∗ (((c : Thread nD τ).loc cc0_scratch1) ↦[rows (insert c (sent c s))]{fullShare} bC m c))

/-- A device doesn't send to itself. -/
theorem self_not_mem_sent (c : Dev nD) (s : ℕ) : c ∉ sent c s := fun h => absurd rfl (Finset.mem_erase.1 (Finset.mem_sdiff.1 h).1).1

/-- The wait for the transfer to the device `s'` places on: its row block back, and the cell closed. -/
theorem step_sendwait (c : Dev nD) (s s' : ℕ) (hs : s < 15 ∧ s' = s + 1)
    {src : Memref sig .tc .vmem S128x128 .bf16} {o : Fin 2 → ℕ} {io : ∀ a, o a + S128x128.size a ≤ S2048x128.size a} {h1 h2}
    {is : ∀ a, (![s'] : Fin 1 → ℕ) a + S1.size a ≤ S16.size a}
    {α : Type} {Q : α → sProp 𝕄} {k : PUnit → Prog (TpuEff nD τ sig (Elt F) Λ₀ .tc) α} :
    SwSt m K c s ⊢ iprop((SwSt m K c s' -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 ((cc0_scratch6.slice (Rect.unit (s := S16) ![s'] S1.size is)).squeeze S_ squeezes_S1_S_).sem src (bM.slice (Rect.unit (s := S2048x128) o S128x128.size io) (fun _ => rfl)) h1 h2) k) Q) := by
  obtain ⟨hs, rfl⟩ := hs
  have hnm : sh c (s + 1) ∉ rem c (s + 1) := sh_not_mem_rem c ⟨s, hs⟩
  have hns : sh c (s + 1) ∉ sent c s := sh_not_mem_sent c ⟨s, hs⟩
  have hne : sh c (s + 1) ≠ c := sh_ne c ⟨s + 1, by omega⟩ (fun e => by have := congrArg Fin.val e; simp at this)
  have hd : dist c (sh c (s + 1)) = ⟨s + 1, by omega⟩ := dist_sh c ⟨s + 1, by omega⟩
  have hd0 : dist c (sh c (s + 1)) ≠ 0 := fun h => hne ((dist_eq_zero _ _).1 h)
  rw [sem_snd (s + 1) (by omega), show sndS ⟨s + 1, by omega⟩ = sndS (dist c (sh c (s + 1))) from by rw [hd]]
  unfold SwSt ow
  rw [show rem c s = insert (sh c (s + 1)) (rem c (s + 1)) from rem_succ c ⟨s, hs⟩, bigSep_ins hnm,
    show sent c (s + 1) = insert (sh c (s + 1)) (sent c s) from sent_succ c ⟨s, hs⟩]
  iintro ⟨#HR, ⟨%W, HO⟩, ⟨⟨Hcr, Hat⟩, Hrest⟩, Hz, Hf⟩ Hk
  ihave HI := (inv_dma m K c (sndS (dist c (sh c (s + 1))))) $$ HR
  icases HI with ⟨#HI, -⟩
  iapply (Rounds.wp_wait_rest_token 𝒱₀ ER (xRd m) (c : Thread nD τ) none (κ := K (c, some (sndS (dist c (sh c (s + 1))))))
    (wpE_waitDma2_eq 𝒱₀ (c : Thread nD τ) none Set.univ) (Set.mem_univ _) () (O := 0) (W := W) (R := 0) (m := 0) (T := ∅)
    (by rw [Nat.zero_add, expect_snd m c _ hd0]; rfl)) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hb := (Entails.of_eq ((rest_snd m c _ hd0).trans (by rw [sh_dist]))) $$ Hpay
  imod (Rounds.cell_close ER (xRd m) (Set.mem_univ (K (c, some (sndS (dist c (sh c (s + 1))))))) (fun h => h) (R := 0 + 1)
    (duties_later m (sndCell c (dist c (sh c (s + 1)))))) $$ [Hat] with Hzb
  · isplitr; · iexact HI
    iexact Hat
  iapply Hk
  isplitr; · iexact HR
  isplitl [HO]; · iexists _; iexact HO
  isplitl [Hrest]; · iexact Hrest
  isplitl [Hz Hzb]
  · iapply (Entails.of_eq (bigSep_ins hns (fun b => (semVal (sndCell c (dist c b)) 0 : sProp 𝕄))).symm)
    isplitl [Hzb] <;> iassumption
  · ihave Hf' := (pts_insert (ℓ := (c : Thread nD τ).loc cc0_scratch1) rowBlk (b := sh c (s + 1)) (J := insert c (sent c s))
      (by rw [Finset.mem_insert, not_or]; exact ⟨hne, hns⟩) (bC m c)).2 $$ [Hb Hf]
    · unfold sndPay; isplitl [Hb] <;> iassumption
    rw [Finset.insert_comm]; iexact Hf'

/-! ## The barrier wait -/

set_option maxRecDepth 8192 in
/-- A wait on a cell ranked below the receive cells is allowed while blocks are still to be sent. -/
theorem mayWait_rec (c : Dev nD) (J : Finset (Dev nD)) (sm : SemLoc sig) (h : lv ((c : Thread nD τ), sm) () ≤ 1) :
    records m K ⊢ (MayWait (c : Thread nD τ) sm () (oweSnd c J) : sProp 𝕄) := (levs m K).trans (mayWait c J sm h)

/-- The wait on the barrier: of every other device's landing buffer this device's column block, and the cell closed. -/
theorem step_bar (c : Dev nD) {a : ℕ} (ha : a = 15)
    {α : Type} {Q : α → sProp 𝕄} {k : PUnit → Prog (TpuEff nD τ sig (Elt F) Λ₀ .tc) α} :
    iprop(SigSt m K c 15 ∗ cred (tallyAt (barCell c) () 15) ∗ atPos ER (barCell c) 0 ∅ 0)
      ⊢ iprop(((records m K ∗ ow c (oweSnd c (others c)) ∗ (bigSep (others c) fun b => barPay c b)
            ∗ (∃ f, ((c : Thread nD τ).loc cc0_scratch3) ↦[cols {c}]{fullShare} f) ∗ semVal (barCell c) 0) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  unfold SigSt ow
  rw [rem_last, show oweSnd c (others c) + oweBar ∅ = oweSnd c (others c) from by unfold oweBar; rw [Finset.sum_empty, add_zero],
    show insert c (∅ : Finset (Dev nD)) = {c} from rfl]
  iintro ⟨⟨#HR, ⟨%W, HO⟩, -, Hf⟩, Hcr, Hat⟩ Hk
  ihave HI := (inv_bar m K c) $$ HR
  icases HI with ⟨#HI, -⟩
  iapply (Rounds.wp_wait_rest_token 𝒱₀ ER (xRd m) (c : Thread nD τ) none (κ := K (c, none))
    (wpE_semWait_eq 𝒱₀ (c : Thread nD τ) none Set.univ) (Set.mem_univ _) () (O := oweSnd c (others c)) (W := W) (R := 0) (m := 0) (T := ∅)
    (by rw [Nat.zero_add, expect_bar])) $$ [Hcr HO Hat]
  · isplitr; · iexact HI
    isplitl [Hcr]; · iexact Hcr
    isplitl [HO]; · iexact HO
    isplitr
    · iapply (mayWait_rec m K c (others c) (.reg barS) (le_refl 1)); iexact HR
    iexact Hat
  iintro ⟨HO, Hat, -, Hpay⟩
  ihave Hb := (Entails.of_eq (rest_bar m c)) $$ Hpay
  imod (Rounds.cell_close ER (xRd m) (Set.mem_univ (K (c, none))) (fun h => h) (R := 0 + 1) (duties_later m (barCell c))) $$ [Hat] with Hz
  · isplitr; · iexact HI
    iexact Hat
  iapply Hk
  isplitr; · iexact HR
  isplitl [HO]; · iexists _; iexact HO
  isplitl [Hb]; · iexact Hb
  isplitl [Hf] <;> iassumption

/-! ## The local copies -/

/-- Entry `i` lies in an array of three semaphores. -/
theorem inbS3 (i : Fin 3) : ∀ a, (![i.val] : Fin 1 → ℕ) a + S1.size a ≤ S3.size a := by
  intro a; have hs := i.isLt
  fin_cases a
  show i.val + 1 ≤ 3
  omega
/-- The program's slices of the local semaphores. -/
theorem sem_loc' : ∀ i : Fin 3,
    ((cc0_scratch5.slice (Rect.unit (s := S3) ![i.val] S1.size (inbS3 i))).squeeze S_ squeezes_S1_S_).sem = locS i := by decide +kernel
/-- The same, at a number. -/
theorem sem_loc (i : ℕ) (hi : i < 3) (h : ∀ a, (![i] : Fin 1 → ℕ) a + S1.size a ≤ S3.size a) :
    ((cc0_scratch5.slice (Rect.unit (s := S3) ![i] S1.size h)).squeeze S_ squeezes_S1_S_).sem = locS ⟨i, hi⟩ := sem_loc' ⟨i, hi⟩

/-- A whole buffer copied to a whole buffer, both given up until the wait. -/
theorem step_copy (c : Dev nD) (i : ℕ) (hi : i < 3) {sp sp' : Space} {s : Shape} {e : EltTy} {src : Memref sig .tc sp s e} {dst : Memref sig .tc sp' s e}
    (fs : Buf (Elt F) (src.view.loc (c : Thread nD τ))) (fd : Buf (Elt F) (dst.view.loc (c : Thread nD τ)))
    (hN : dst.view.dmaCredit = dmaAmt i)
    (hpay : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ dmaPay m c i)
    {is : ∀ a, (![i] : Fin 1 → ℕ) a + S1.size a ≤ S3.size a} {hsrc hdst hsem}
    {α : Type} {Q : α → sProp 𝕄} {k : PUnit → Prog (TpuEff nD τ sig (Elt F) Λ₀ .tc) α} :
    iprop(records m K ∗ (src.view.loc (c : Thread nD τ) ↦[src.view.set]{fullShare} fs) ∗ (dst.view.loc (c : Thread nD τ) ↦[dst.view.set]{fullShare} fd)
        ∗ dutyTok ER (locCell c ⟨i, hi⟩) 0 (0 : Fin 16))
      ⊢ iprop((cred (tallyAt (locCell c ⟨i, hi⟩) () (dmaAmt i)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma ((cc0_scratch5.slice (Rect.unit (s := S3) ![i] S1.size is)).squeeze S_ squeezes_S1_S_).sem) hsrc hdst hsem) k) Q) := by
  revert hsem
  rw [sem_loc i hi]
  intro hsem
  iintro ⟨#HR, Hs, Hd, Ht⟩ Hk
  ihave HI := (inv_dma m K c (locS ⟨i, hi⟩)) $$ HR
  icases HI with ⟨#HI, #Hre⟩
  iapply (Rounds.wp_copy_pointsTo 𝒱₀ ER (xRd m) (c : Thread nD τ) none (κ := K (c, some (locS ⟨i, hi⟩))) (r := 0) (d := (0 : Fin 16)) (fs := fs) (fd := fd) (q := fullShare)
    (by rw [duties_loc]; exact Finset.mem_singleton_self _) () (dmaAmt i) (show dst.view.amount (.dma (locS ⟨i, hi⟩)) = dmaAmt i from hN) rfl hpay) $$ [Hs Hd Ht]
  · isplitr; · iexact HI
    isplitl [Hs]; · iexact Hs
    isplitl [Hd]; · iexact Hd
    isplitl [Ht]; · iexact Ht
    iexact Hre
  iexact Hk

/-- A local completion lies below the receive cells. -/
theorem lv_loc (c : Dev nD) (i : Fin 3) : lv ((c : Thread nD τ), .dma (locS i)) () ≤ 1 := by
  show (if 19 ≤ i.val then 2 else 0) ≤ 1
  rw [if_neg (by have := i.isLt; omega)]; decide

/-- The wait for it: both buffers, and the cell closed. -/
theorem step_local (c : Dev nD) (i : ℕ) (hi : i < 3) (J : Finset (Dev nD)) {sp sp' : Space} {s : Shape} {e : EltTy} {src : Memref sig .tc sp s e}
    {dst : Memref sig .tc sp' s e} (hN : dst.view.dmaCredit = dmaAmt i)
    {is : ∀ a, (![i] : Fin 1 → ℕ) a + S1.size a ≤ S3.size a} {hsrc hdst}
    {α : Type} {Q : α → sProp 𝕄} {k : PUnit → Prog (TpuEff nD τ sig (Elt F) Λ₀ .tc) α} :
    iprop(records m K ∗ cred (tallyAt (locCell c ⟨i, hi⟩) () (dmaAmt i)) ∗ ow c (oweSnd c J) ∗ atPos ER (locCell c ⟨i, hi⟩) 0 ∅ 0)
      ⊢ iprop(((ow c (oweSnd c J) ∗ dmaPay m c i ∗ semVal (locCell c ⟨i, hi⟩) 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ((cc0_scratch5.slice (Rect.unit (s := S3) ![i] S1.size is)).squeeze S_ squeezes_S1_S_).sem src dst hsrc hdst) k) Q) := by
  rw [sem_loc i hi]
  unfold ow
  iintro ⟨#HR, Hcr, ⟨%W, HO⟩, Hat⟩ Hk
  ihave HI := (inv_dma m K c (locS ⟨i, hi⟩)) $$ HR
  icases HI with ⟨#HI, -⟩
  iapply (Rounds.wp_wait_rest_token 𝒱₀ ER (xRd m) (c : Thread nD τ) none (κ := K (c, some (locS ⟨i, hi⟩)))
    (wpE_waitDma2_eq 𝒱₀ (c : Thread nD τ) none Set.univ) (Set.mem_univ _) () (O := oweSnd c J) (W := W) (R := 0) (m := 0) (T := ∅)
    (by rw [Nat.zero_add, expect_loc, hN])) $$ [Hcr HO Hat]
  · isplitr; · iexact HI
    isplitl [Hcr]; · rw [hN]; iexact Hcr
    isplitl [HO]; · iexact HO
    isplitr
    · iapply (mayWait_rec m K c J (.dma (locS ⟨i, hi⟩)) (lv_loc c ⟨i, hi⟩)); iexact HR
    iexact Hat
  iintro ⟨HO, Hat, -, Hpay⟩
  ihave Hb := (Entails.of_eq (rest_loc m c ⟨i, hi⟩)) $$ Hpay
  imod (Rounds.cell_close ER (xRd m) (Set.mem_univ (K (c, some (locS ⟨i, hi⟩)))) (fun h => h) (R := 0 + 1) (duties_later m (locCell c ⟨i, hi⟩))) $$ [Hat] with Hz
  · isplitr; · iexact HI
    iexact Hat
  iapply Hk
  isplitl [HO]; · iexists _; iexact HO
  isplitl [Hb] <;> iassumption

/-! ## The two cells no transfer credits -/

/-- Send cell 0 is at zero. -/
theorem close_snd_zero (c : Dev nD) : iprop(records m K ∗ atPos ER (sndCell c 0) 0 ∅ 0) ⊢ iprop(|={Set.univ}=> semVal (sndCell c 0) 0) := by
  iintro ⟨#HR, Hat⟩
  ihave HI := (inv_dma m K c (sndS 0)) $$ HR
  icases HI with ⟨#HI, -⟩
  iapply (Rounds.cell_close ER (xRd m) (Set.mem_univ (K (c, some (sndS 0)))) (fun h => h) (R := 0) (duties_snd_zero m c))
  isplitr; · iexact HI
  iexact Hat
/-- The device's own receive cell is at zero. -/
theorem close_rcv_self (c : Dev nD) : iprop(records m K ∗ atPos ER (rcvCell c c) 0 ∅ 0) ⊢ iprop(|={Set.univ}=> semVal (rcvCell c c) 0) := by
  iintro ⟨#HR, Hat⟩
  ihave HI := (inv_dma m K c (rcvS c)) $$ HR
  icases HI with ⟨#HI, -⟩
  iapply (Rounds.cell_close ER (xRd m) (Set.mem_univ (K (c, some (rcvS c)))) (fun h => h) (R := 0) (duties_rcv_self m c))
  isplitr; · iexact HI
  iexact Hat

end Cert.KernelIdeal.Exchange

end
-- ==== Proof.Front.lean ====
/-
# The first half of the kernel

Parts 1 to 9: the local copies start, the barrier, `x`'s block rounded, the fifteen transfers, the own block put in place.
-/
module

public import proofs.«01_k».proof.Proof.Steps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (DmaSem sig) → ℕ)

/-- The device's number on the ring axis, as the kernel computes it. -/
abbrev ax (c : Dev nD) : BitVec 32 := Scalar.remsi (Scalar.divsi (Dev.word c) 1#32) 16#32

/-- The offset of a whole buffer is zero. -/
theorem hz2 : (![0, 0] : Fin 2 → ℕ) = fun _ => 0 := by funext a; fin_cases a <;> rfl

/-- Reading all of the copy of `x` gives its contents. -/
theorem read_x (f : Vec F S2048x128 .f32) {h : ∀ a, (![0, 0] : Fin 2 → ℕ) a + S2048x128.size a ≤ S2048x128.size a} :
    xM.view.readAt (Elt F) (Rect.unit (s := S2048x128) ![0, 0] S2048x128.size h).toLoadRect f = f :=
  Memref.readAt_unit_zero (Elt F) cc0_scratch0 hz2 _ f
/-- Writing all of the rounded block's buffer leaves what was written. -/
theorem write_b (f w : Vec F S2048x128 .bf16) {h : ∀ a, (![0, 0] : Fin 2 → ℕ) a + S2048x128.size a ≤ S2048x128.size a} :
    (bM.access (Rect.unit (s := S2048x128) ![0, 0] S2048x128.size h)).write (Elt F) f w Finset.univ = w :=
  Memref.write_access_unit_zero_univ (Elt F) cc0_scratch1 hz2 _ f w

/-- A buffer at whatever it holds. -/
abbrev hole (c : Dev nD) (b : Ref sig .tc) : sProp 𝕄 := iprop(∃ f, ((c : Thread nD τ).loc b) ↦{fullShare} f)

set_option maxHeartbeats 2000000 in
/-- The copies of `x` and `w` started, and the first four signals. -/
theorem part1 (c : Dev nD) {Q : (Σ' (_ : Dev nD) (_ : BitVec 32) (_ : Sems sig S_), BitVec 32) → sProp 𝕄} :
    iprop(records m K ∗ SigSt m K c 0 ∗ hole c cc0_scratch0 ∗ (((c : Thread nD τ).loc main_arg0) ↦{fullShare} xC m c) ∗ dutyTok ER (locCell c 0) 0 (0 : Fin 16)
        ∗ hole c cc0_scratch2 ∗ (((c : Thread nD τ).loc main_arg1) ↦{fullShare} wC m c) ∗ dutyTok ER (locCell c 1) 0 (0 : Fin 16))
      ⊢ iprop((∀ v, (SigSt m K c 4 ∗ cred (tallyAt (locCell c 0) () (dmaAmt 0)) ∗ cred (tallyAt (locCell c 1) () (dmaAmt 1)))
            -∗ Q ⟨c, ax c, SemArray.scalar (sig.barrier 0 rfl), v⟩)
          -∗ wp frame (wpE (defs₀ (F := F)) 𝒱₀ (c : Thread nD τ) none) Set.univ (k0_part1 xH (Memref.isWhole_whole _) wH (Memref.isWhole_whole _) oH (Memref.isWhole_whole _) xM (Memref.isWhole_whole _) bM (Memref.isWhole_whole _) wM (Memref.isWhole_whole _) rM (Memref.isWhole_whole _) oM (Memref.isWhole_whole _) cc0_scratch5 cc0_scratch6 cc0_scratch7) Q) := by
  simp only [k0_part1_eq_skeleton]; unfold k0_part1_skel
  simp only [semSignalWord, semWaitWord, Prog.lift, Prog.bind_op, Prog.bind_ret, Prog.pure_eq_ret, wp_deviceId]
  iintro ⟨#HR, Hs, ⟨%f0, H0⟩, Hx, Ht0, ⟨%f2, H2⟩, Hw, Ht1⟩ Hk
  iapply (step_copy m K c 0 (by decide) (src := xH) (dst := xM) (xC m c) f0 rfl
    (by rw [View.write_whole_univ, View.read_whole, View.set_whole, View.set_whole]; exact BI.Entails.refl _)) $$ [Hx H0 Ht0]
  · isplitr; · iexact HR
    rw [View.set_whole, View.set_whole]
    isplitl [Hx]; · iexact Hx
    isplitl [H0]; · iexact H0
    iexact Ht0
  iintro Hc0
  iapply (step_copy m K c 1 (by decide) (src := wH) (dst := wM) (wC m c) f2 rfl
    (by rw [View.write_whole_univ, View.read_whole, View.set_whole, View.set_whole]; exact BI.Entails.refl _)) $$ [Hw H2 Ht1]
  · isplitr; · iexact HR
    rw [View.set_whole, View.set_whole]
    isplitl [Hw]; · iexact Hw
    isplitl [H2]; · iexact H2
    iexact Ht1
  iintro Hc1
  iapply (step_signal m K c 0 1 ⟨by decide, rfl⟩ _ (k0_dev1_eq c) rfl) $$ Hs; iintro Hs
  iapply (step_signal m K c 1 2 ⟨by decide, rfl⟩ _ (k0_dev2_eq c) rfl) $$ Hs; iintro Hs
  iapply (step_signal m K c 2 3 ⟨by decide, rfl⟩ _ (k0_dev3_eq c) rfl) $$ Hs; iintro Hs
  iapply (step_signal m K c 3 4 ⟨by decide, rfl⟩ _ (k0_dev4_eq c) rfl) $$ Hs; iintro Hs
  rw [wp_ret]; imodintro
  iapply Hk
  isplitl [Hs]; · iexact Hs
  isplitl [Hc0]; · iexact Hc0
  iexact Hc1

set_option maxHeartbeats 2000000 in
/-- Six more signals. -/
theorem part2 (c : Dev nD) (w x : BitVec 32) {Q : BitVec 32 → sProp 𝕄} :
    SigSt m K c 4 ⊢ iprop((∀ v, SigSt m K c 10 -∗ Q v) -∗ wp frame (wpE (defs₀ (F := F)) 𝒱₀ (c : Thread nD τ) none) Set.univ (k0_part2 xH (Memref.isWhole_whole _) wH (Memref.isWhole_whole _) oH (Memref.isWhole_whole _) xM (Memref.isWhole_whole _) bM (Memref.isWhole_whole _) wM (Memref.isWhole_whole _) rM (Memref.isWhole_whole _) oM (Memref.isWhole_whole _) cc0_scratch5 cc0_scratch6 cc0_scratch7 c w (SemArray.scalar (sig.barrier 0 rfl)) x) Q) := by
  simp only [k0_part2_eq_skeleton]; unfold k0_part2_skel
  simp only [semSignalWord, semWaitWord, Prog.lift, Prog.bind_op, Prog.bind_ret, Prog.pure_eq_ret, wp_deviceId]
  iintro Hs Hk
  iapply (step_signal m K c 4 5 ⟨by decide, rfl⟩ _ (k0_dev5_eq c) rfl) $$ Hs; iintro Hs
  iapply (step_signal m K c 5 6 ⟨by decide, rfl⟩ _ (k0_dev6_eq c) rfl) $$ Hs; iintro Hs
  iapply (step_signal m K c 6 7 ⟨by decide, rfl⟩ _ (k0_dev7_eq c) rfl) $$ Hs; iintro Hs
  iapply (step_signal m K c 7 8 ⟨by decide, rfl⟩ _ (k0_dev8_eq c) rfl) $$ Hs; iintro Hs
  iapply (step_signal m K c 8 9 ⟨by decide, rfl⟩ _ (k0_dev9_eq c) rfl) $$ Hs; iintro Hs
  iapply (step_signal m K c 9 10 ⟨by decide, rfl⟩ _ (k0_dev10_eq c) rfl) $$ Hs; iintro Hs
  rw [wp_ret]; imodintro
  iapply Hk; iexact Hs

set_option maxHeartbeats 2000000 in
/-- The last five signals, the waits on the barrier and for `x`, and `x` read and rounded. -/
theorem part3 (c : Dev nD) (w x : BitVec 32) {Q : FVec F S2048x128 .bf16 → sProp 𝕄} :
    iprop(records m K ∗ SigSt m K c 10 ∗ cred (tallyAt (barCell c) () 15) ∗ atPos ER (barCell c) 0 ∅ 0
        ∗ cred (tallyAt (locCell c 0) () (dmaAmt 0)) ∗ atPos ER (locCell c 0) 0 ∅ 0 ∗ hole c cc0_scratch1)
      ⊢ iprop(((ow c (oweSnd c (others c)) ∗ (bigSep (others c) fun b => barPay c b)
            ∗ (∃ f, ((c : Thread nD τ).loc cc0_scratch3) ↦[cols {c}]{fullShare} f) ∗ semVal (barCell c) 0 ∗ xPay m c ∗ semVal (locCell c 0) 0
            ∗ hole c cc0_scratch1) -∗ Q (k0_pay1 (xC m c)))
          -∗ wp frame (wpE (defs₀ (F := F)) 𝒱₀ (c : Thread nD τ) none) Set.univ (k0_part3 xH (Memref.isWhole_whole _) wH (Memref.isWhole_whole _) oH (Memref.isWhole_whole _) xM (Memref.isWhole_whole _) bM (Memref.isWhole_whole _) wM (Memref.isWhole_whole _) rM (Memref.isWhole_whole _) oM (Memref.isWhole_whole _) cc0_scratch5 cc0_scratch6 cc0_scratch7 c w (SemArray.scalar (sig.barrier 0 rfl)) x) Q) := by
  simp only [k0_part3_eq_skeleton]; unfold k0_part3_skel
  simp only [semSignalWord, semWaitWord, Prog.lift, Prog.bind_op, Prog.bind_ret, Prog.pure_eq_ret, wp_deviceId]
  iintro ⟨#HR, Hs, HcB, HaB, Hc0, Ha0, ⟨%f1, H1⟩⟩ Hk
  iapply (step_signal m K c 10 11 ⟨by decide, rfl⟩ _ (k0_dev11_eq c) rfl) $$ Hs; iintro Hs
  iapply (step_signal m K c 11 12 ⟨by decide, rfl⟩ _ (k0_dev12_eq c) rfl) $$ Hs; iintro Hs
  iapply (step_signal m K c 12 13 ⟨by decide, rfl⟩ _ (k0_dev13_eq c) rfl) $$ Hs; iintro Hs
  iapply (step_signal m K c 13 14 ⟨by decide, rfl⟩ _ (k0_dev14_eq c) rfl) $$ Hs; iintro Hs
  iapply (step_signal m K c 14 15 ⟨by decide, rfl⟩ _ (k0_dev15_eq c) rfl) $$ Hs; iintro Hs
  iapply (step_bar m K c rfl) $$ [Hs HcB HaB]
  · isplitl [Hs]; · iexact Hs
    isplitl [HcB] <;> iassumption
  iintro ⟨-, HO, Hbars, H3, HzB⟩
  iapply (step_local m K c 0 (by decide) (others c) (src := xH) (dst := xM) rfl) $$ [Hc0 HO Ha0]
  · isplitr; · iexact HR
    isplitl [Hc0]; · iexact Hc0
    isplitl [HO]; · iexact HO
    iexact Ha0
  iintro ⟨HO, Hx, Hz0⟩
  ihave Hx := (show dmaPay m c 0 ⊢ xPay m c from BI.Entails.refl _) $$ Hx
  unfold xPay
  icases Hx with ⟨H0, Hx⟩
  iapply (wp_load 𝒱₀ (c : Thread nD τ) none Set.univ (m := xM) (Finset.subset_univ _)) $$ H0; iintro H0
  iapply (wp_load 𝒱₀ (c : Thread nD τ) none Set.univ (m := bM) (Finset.subset_univ _)) $$ H1; iintro H1
  rw [read_x, wp_ret]; imodintro
  iapply Hk
  isplitl [HO]; · iexact HO
  isplitl [Hbars]; · iexact Hbars
  isplitl [H3]; · iexact H3
  isplitl [HzB]; · iexact HzB
  isplitl [H0 Hx]
  · isplitl [H0] <;> iassumption
  isplitl [Hz0]; · iexact Hz0
  iexists f1; iexact H1

set_option maxHeartbeats 2000000 in
/-- The rounded block stored, and the first two transfers. -/
theorem part4 (c : Dev nD) (w : BitVec 32) {Q : PUnit → sProp 𝕄} :
    iprop(records m K ∗ ow c (oweSnd c (others c)) ∗ (bigSep (others c) fun b => dutyTok ER (rcvCell b c) 0 (0 : Fin 16))
        ∗ (bigSep (others c) fun b => dutyTok ER (sndCell c (dist c b)) 0 (0 : Fin 16)) ∗ (bigSep (others c) fun b => barPay c b) ∗ hole c cc0_scratch1)
      ⊢ iprop((SndSt m K c 2 -∗ Q ⟨⟩) -∗ wp frame (wpE (defs₀ (F := F)) 𝒱₀ (c : Thread nD τ) none) Set.univ (k0_part4 xH (Memref.isWhole_whole _) wH (Memref.isWhole_whole _) oH (Memref.isWhole_whole _) xM (Memref.isWhole_whole _) bM (Memref.isWhole_whole _) wM (Memref.isWhole_whole _) rM (Memref.isWhole_whole _) oM (Memref.isWhole_whole _) cc0_scratch5 cc0_scratch6 cc0_scratch7 c w (k0_pay1 (xC m c))) Q) := by
  simp only [k0_part4_eq_skeleton]; unfold k0_part4_skel
  simp only [semSignalWord, semWaitWord, Prog.lift, Prog.bind_op, Prog.bind_ret, Prog.pure_eq_ret, wp_deviceId]
  iintro ⟨#HR, HO, Ht1, Ht2, Hb, ⟨%f1, H1⟩⟩ Hk
  iapply (wp_store 𝒱₀ (c : Thread nD τ) none Set.univ (m := bM) (r := Rect.unit (s := S2048x128) ![0, 0] S2048x128.size inb_S2048x128_S2048x128_0_0)
    (Mk := Finset.univ) (Finset.subset_univ _)) $$ H1; iintro H1
  rw [write_b]
  ihave Hs := (snd_start m K c) $$ [HO Ht1 Ht2 Hb H1]
  · isplitr; · iexact HR
    isplitl [HO]; · iexact HO
    isplitl [Ht1]; · iexact Ht1
    isplitl [Ht2]; · iexact Ht2
    isplitl [Hb]; · iexact Hb
    iexact H1
  iapply (step_send m K c 0 1 ⟨by decide, rfl⟩ _ (k0_dev16_eq c) (k0_off1_eq c) (k0_off2_eq c) (k0_off3_eq c 0)) $$ Hs; iintro Hs
  iapply (step_send m K c 1 2 ⟨by decide, rfl⟩ _ (k0_dev17_eq c) (k0_off1_eq c) (k0_off2_eq c) (k0_off3_eq c 1)) $$ Hs; iintro Hs
  rw [wp_ret]; imodintro
  iapply Hk; iexact Hs

set_option maxHeartbeats 2000000 in
/-- Three more transfers. -/
theorem part5 (c : Dev nD) (w : BitVec 32) {Q : BitVec 32 → sProp 𝕄} :
    SndSt m K c 2 ⊢ iprop((∀ v, SndSt m K c 5 -∗ Q v) -∗ wp frame (wpE (defs₀ (F := F)) 𝒱₀ (c : Thread nD τ) none) Set.univ (k0_part5 xH (Memref.isWhole_whole _) wH (Memref.isWhole_whole _) oH (Memref.isWhole_whole _) xM (Memref.isWhole_whole _) bM (Memref.isWhole_whole _) wM (Memref.isWhole_whole _) rM (Memref.isWhole_whole _) oM (Memref.isWhole_whole _) cc0_scratch5 cc0_scratch6 cc0_scratch7 c w) Q) := by
  simp only [k0_part5_eq_skeleton]; unfold k0_part5_skel
  simp only [semSignalWord, semWaitWord, Prog.lift, Prog.bind_op, Prog.bind_ret, Prog.pure_eq_ret, wp_deviceId]
  iintro Hs Hk
  iapply (step_send m K c 2 3 ⟨by decide, rfl⟩ _ (k0_dev18_eq c) (k0_off1_eq c) (k0_off2_eq c) (k0_off3_eq c 2)) $$ Hs; iintro Hs
  iapply (step_send m K c 3 4 ⟨by decide, rfl⟩ _ (k0_dev19_eq c) (k0_off1_eq c) (k0_off2_eq c) (k0_off3_eq c 3)) $$ Hs; iintro Hs
  iapply (step_send m K c 4 5 ⟨by decide, rfl⟩ _ (k0_dev20_eq c) (k0_off1_eq c) (k0_off2_eq c) (k0_off3_eq c 4)) $$ Hs; iintro Hs
  rw [wp_ret]; imodintro
  iapply Hk; iexact Hs

set_option maxHeartbeats 2000000 in
/-- Three more transfers. -/
theorem part6 (c : Dev nD) (w x : BitVec 32) {Q : BitVec 32 → sProp 𝕄} :
    SndSt m K c 5 ⊢ iprop((∀ v, SndSt m K c 8 -∗ Q v) -∗ wp frame (wpE (defs₀ (F := F)) 𝒱₀ (c : Thread nD τ) none) Set.univ (k0_part6 xH (Memref.isWhole_whole _) wH (Memref.isWhole_whole _) oH (Memref.isWhole_whole _) xM (Memref.isWhole_whole _) bM (Memref.isWhole_whole _) wM (Memref.isWhole_whole _) rM (Memref.isWhole_whole _) oM (Memref.isWhole_whole _) cc0_scratch5 cc0_scratch6 cc0_scratch7 c w x) Q) := by
  simp only [k0_part6_eq_skeleton]; unfold k0_part6_skel
  simp only [semSignalWord, semWaitWord, Prog.lift, Prog.bind_op, Prog.bind_ret, Prog.pure_eq_ret, wp_deviceId]
  iintro Hs Hk
  iapply (step_send m K c 5 6 ⟨by decide, rfl⟩ _ (k0_dev21_eq c) (k0_off1_eq c) (k0_off2_eq c) (k0_off3_eq c 5)) $$ Hs; iintro Hs
  iapply (step_send m K c 6 7 ⟨by decide, rfl⟩ _ (k0_dev22_eq c) (k0_off1_eq c) (k0_off2_eq c) (k0_off3_eq c 6)) $$ Hs; iintro Hs
  iapply (step_send m K c 7 8 ⟨by decide, rfl⟩ _ (k0_dev23_eq c) (k0_off1_eq c) (k0_off2_eq c) (k0_off3_eq c 7)) $$ Hs; iintro Hs
  rw [wp_ret]; imodintro
  iapply Hk; iexact Hs

set_option maxHeartbeats 2000000 in
/-- Two more transfers. -/
theorem part7 (c : Dev nD) (w x : BitVec 32) {Q : PUnit → sProp 𝕄} :
    SndSt m K c 8 ⊢ iprop((SndSt m K c 10 -∗ Q ⟨⟩) -∗ wp frame (wpE (defs₀ (F := F)) 𝒱₀ (c : Thread nD τ) none) Set.univ (k0_part7 xH (Memref.isWhole_whole _) wH (Memref.isWhole_whole _) oH (Memref.isWhole_whole _) xM (Memref.isWhole_whole _) bM (Memref.isWhole_whole _) wM (Memref.isWhole_whole _) rM (Memref.isWhole_whole _) oM (Memref.isWhole_whole _) cc0_scratch5 cc0_scratch6 cc0_scratch7 c w x) Q) := by
  simp only [k0_part7_eq_skeleton]; unfold k0_part7_skel
  simp only [semSignalWord, semWaitWord, Prog.lift, Prog.bind_op, Prog.bind_ret, Prog.pure_eq_ret, wp_deviceId]
  iintro Hs Hk
  iapply (step_send m K c 8 9 ⟨by decide, rfl⟩ _ (k0_dev24_eq c) (k0_off1_eq c) (k0_off2_eq c) (k0_off3_eq c 8)) $$ Hs; iintro Hs
  iapply (step_send m K c 9 10 ⟨by decide, rfl⟩ _ (k0_dev25_eq c) (k0_off1_eq c) (k0_off2_eq c) (k0_off3_eq c 9)) $$ Hs; iintro Hs
  rw [wp_ret]; imodintro
  iapply Hk; iexact Hs

set_option maxHeartbeats 2000000 in
/-- Three more transfers. -/
theorem part8 (c : Dev nD) (w : BitVec 32) {Q : (Σ' (_ : BitVec 32), BitVec 32) → sProp 𝕄} :
    SndSt m K c 10 ⊢ iprop((∀ v, SndSt m K c 13 -∗ Q v) -∗ wp frame (wpE (defs₀ (F := F)) 𝒱₀ (c : Thread nD τ) none) Set.univ (k0_part8 xH (Memref.isWhole_whole _) wH (Memref.isWhole_whole _) oH (Memref.isWhole_whole _) xM (Memref.isWhole_whole _) bM (Memref.isWhole_whole _) wM (Memref.isWhole_whole _) rM (Memref.isWhole_whole _) oM (Memref.isWhole_whole _) cc0_scratch5 cc0_scratch6 cc0_scratch7 c w) Q) := by
  simp only [k0_part8_eq_skeleton]; unfold k0_part8_skel
  simp only [semSignalWord, semWaitWord, Prog.lift, Prog.bind_op, Prog.bind_ret, Prog.pure_eq_ret, wp_deviceId]
  iintro Hs Hk
  iapply (step_send m K c 10 11 ⟨by decide, rfl⟩ _ (k0_dev26_eq c) (k0_off1_eq c) (k0_off2_eq c) (k0_off3_eq c 10)) $$ Hs; iintro Hs
  iapply (step_send m K c 11 12 ⟨by decide, rfl⟩ _ (k0_dev27_eq c) (k0_off1_eq c) (k0_off2_eq c) (k0_off3_eq c 11)) $$ Hs; iintro Hs
  iapply (step_send m K c 12 13 ⟨by decide, rfl⟩ _ (k0_dev28_eq c) (k0_off1_eq c) (k0_off2_eq c) (k0_off3_eq c 12)) $$ Hs; iintro Hs
  rw [wp_ret]; imodintro
  iapply Hk; iexact Hs

end Cert.KernelIdeal.Exchange

end
-- ==== Proof.Mid.lean ====
/-
# The second half of the kernel

Parts 9 to 14 and the tail: the own block put in place, the fifteen receive waits between the four products, the result
out, the fifteen send waits.
-/
module

public import proofs.«01_k».proof.Proof.Front

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (DmaSem sig) → ℕ)

/-! ## The own block -/

/-- The own row block read. -/
theorem own_load (c : Dev nD) {o : Fin 2 → ℕ} (ho : o = ![128 * c.val, 0]) {i : ∀ a, o a + S128x128.size a ≤ S2048x128.size a} {hl}
    {α : Type} {Q : α → sProp 𝕄} {k : Vec F S128x128 .bf16 → Prog (TpuEff nD τ sig (Elt F) Λ₀ .tc) α} :
    (((c : Thread nD τ).loc cc0_scratch1) ↦[rows {c}]{fullShare} bC m c)
      ⊢ iprop(((((c : Thread nD τ).loc cc0_scratch1) ↦[rows {c}]{fullShare} bC m c) -∗ wp frame (wpE (defs₀ (F := F)) 𝒱₀ (c : Thread nD τ) none) Set.univ (k ((rowM c).view.read (Elt F) (bC m c))) Q)
          -∗ wp frame (wpE (defs₀ (F := F)) 𝒱₀ (c : Thread nD τ) none) Set.univ (.op (.load bM (Rect.unit (s := S2048x128) o S128x128.size i).toLoadRect hl) k) Q) := by
  subst ho
  exact wp_load 𝒱₀ (c : Thread nD τ) none Set.univ (m := bM)
    (r := (Rect.unit (s := S2048x128) ![128 * c.val, 0] S128x128.size i).toLoadRect) (S := rows {c})
    (by rw [← rowM_set c]; exact (View.set_slice bM.view _).ge)

/-- The own column block of the landing buffer read, and not used. -/
theorem own_peek (c : Dev nD) {o : Fin 2 → ℕ} (ho : o = ![0, 128 * c.val]) {i : ∀ a, o a + S128x128.size a ≤ S128x2048.size a} {hl}
    (f : Vec F S128x2048 .bf16)
    {α : Type} {Q : α → sProp 𝕄} {k : Vec F S128x128 .bf16 → Prog (TpuEff nD τ sig (Elt F) Λ₀ .tc) α} :
    (((c : Thread nD τ).loc cc0_scratch3) ↦[cols {c}]{fullShare} f)
      ⊢ iprop(((((c : Thread nD τ).loc cc0_scratch3) ↦[cols {c}]{fullShare} f) -∗ wp frame (wpE (defs₀ (F := F)) 𝒱₀ (c : Thread nD τ) none) Set.univ (k ((colM c).view.read (Elt F) f)) Q)
          -∗ wp frame (wpE (defs₀ (F := F)) 𝒱₀ (c : Thread nD τ) none) Set.univ (.op (.load rM (Rect.unit (s := S128x2048) o S128x128.size i).toLoadRect hl) k) Q) := by
  subst ho
  exact wp_load 𝒱₀ (c : Thread nD τ) none Set.univ (m := rM)
    (r := (Rect.unit (s := S128x2048) ![0, 128 * c.val] S128x128.size i).toLoadRect) (S := cols {c})
    (by rw [← colM_set c]; exact (View.set_slice rM.view _).ge)

/-- The own row block stored into the own column block of the landing buffer. -/
theorem own_store (c : Dev nD) {o : Fin 2 → ℕ} (ho : o = ![0, 128 * c.val]) {i : ∀ a, o a + S128x128.size a ≤ S128x2048.size a} {hx hm}
    (f : Vec F S128x2048 .bf16)
    {α : Type} {Q : α → sProp 𝕄} {k : PUnit → Prog (TpuEff nD τ sig (Elt F) Λ₀ .tc) α} :
    (((c : Thread nD τ).loc cc0_scratch3) ↦[cols {c}]{fullShare} f)
      ⊢ iprop(((((c : Thread nD τ).loc cc0_scratch3) ↦[cols {c}]{fullShare} rC m c) -∗ wp frame (wpE (defs₀ (F := F)) 𝒱₀ (c : Thread nD τ) none) Set.univ (k ⟨⟩) Q)
          -∗ wp frame (wpE (defs₀ (F := F)) 𝒱₀ (c : Thread nD τ) none) Set.univ (.op (.store rM (Rect.unit (s := S128x2048) o S128x128.size i) (k0_pay3 ((rowM c).view.read (Elt F) (bC m c))) Finset.univ hx hm) k) Q) := by
  subst ho
  have h := wp_store (defs := defs₀ (F := F)) 𝒱₀ (c : Thread nD τ) none (Γ := .empty) Set.univ (m := rM)
    (r := Rect.unit (s := S128x2048) ![0, 128 * c.val] S128x128.size i) (w := k0_pay3 ((rowM c).view.read (Elt F) (bC m c))) (Mk := Finset.univ)
    (hx := hx) (hm := hm) (k := k) (Q := Q) (S := cols {c}) (f := f)
    (by rw [← colM_set c]; exact le_refl _)
  have e : ∀ j ∈ cols {c}, (rM.access (Rect.unit (s := S128x2048) ![0, 128 * c.val] S128x128.size i)).write (Elt F) f
      (k0_pay3 ((rowM c).view.read (Elt F) (bC m c))) Finset.univ j = rC m c j := by
    intro j hj
    rw [show k0_pay3 ((rowM c).view.read (Elt F) (bC m c)) = (rowM c).view.read (Elt F) (bC m c) from shapeCast_self _ _]
    exact landed_eq m c c f j hj
  have e' : (((c : Thread nD τ).loc cc0_scratch3) ↦[cols {c}]{fullShare} _ : sProp 𝕄) = _ := pointsTo_congr e
  rw [← e']
  exact h

/-- All receive waits still to be made: the own column block is there. -/
theorem rcv_start (c : Dev nD) :
    iprop(records m K ∗ ow c 0 ∗ (bigSep (others c) fun j => cred (tallyAt (rcvCell c j) () N))
      ∗ (bigSep (others c) fun j => atPos ER (rcvCell c j) 0 ∅ 0) ∗ semVal (rcvCell c c) 0
      ∗ (((c : Thread nD τ).loc cc0_scratch3) ↦[cols {c}]{fullShare} rC m c)) ⊢ RcvSt m K c 0 := by
  unfold RcvSt
  rw [compl_upto_zero, upto_zero, bigSep_sep', bigSep_singleton]
  iintro ⟨#HR, HO, H1, H2, Hz, Hf⟩
  isplitr; · iexact HR
  isplitl [HO]; · iexact HO
  isplitl [H1 H2]
  · isplitl [H1] <;> iassumption
  isplitl [Hz] <;> iassumption

/-! ## The receive conditions and the operands -/

/-- "This device is not number `j`", as the kernel computes it. -/
abbrev isOther (c : Dev nD) (j : BitVec 32) : BitVec 32 := Scalar.extui (Scalar.cmpi .ne (ax c) j)

/-- The kernel compares its number with `j` as numbers, so the branch is taken on every device but `j`. -/
theorem other_iff : ∀ (c : Dev nD) (j : Fin 16), (Scalar.cmpi .ne (isOther c (BitVec.ofNat 32 j.val)) 0#32 = 1#1) ↔ c ≠ j := by decide +kernel

/-- 512 gathered columns read, all of them there. -/
theorem load_r (c : Dev nD) (n o : ℕ) (hn : o + 512 ≤ 128 * n) {i : ∀ a, (![0, o] : Fin 2 → ℕ) a + S128x512.size a ≤ S128x2048.size a} {hl}
    {α : Type} {Q : α → sProp 𝕄} {k : Vec F S128x512 .bf16 → Prog (TpuEff nD τ sig (Elt F) Λ₀ .tc) α} :
    RcvSt m K c n ⊢ iprop((RcvSt m K c n -∗ wp frame (wpE (defs₀ (F := F)) 𝒱₀ (c : Thread nD τ) none) Set.univ (k (xg m c o i)) Q)
      -∗ wp frame (wpE (defs₀ (F := F)) 𝒱₀ (c : Thread nD τ) none) Set.univ (.op (.load rM (Rect.unit (s := S128x2048) ![0, o] S128x512.size i).toLoadRect hl) k) Q) := by
  unfold RcvSt
  iintro ⟨#HR, HO, H1, H2, Hf⟩ Hk
  iapply (wp_load 𝒱₀ (c : Thread nD τ) none Set.univ (m := rM) (S := cols (upto c n)ᶜ) (by
    intro x hx
    obtain ⟨y, hy, rfl⟩ := Finset.mem_map.mp hx
    have h1 := (Rect.mem_set_unit.1 hy 1).2
    change (y 1).val < o + 512 at h1
    refine Finset.mem_filter.2 ⟨Finset.mem_univ _, mem_compl_upto c _ n ?_⟩
    show (y 1).val / 128 < n
    omega)) $$ Hf
  iintro Hf
  iapply Hk
  isplitr; · iexact HR
  isplitl [HO]; · iexact HO
  isplitl [H1]; · iexact H1
  isplitl [H2] <;> iassumption

/-- 512 rows of `w` read. -/
theorem load_w (c : Dev nD) (o : ℕ) {i : ∀ a, (![o, 0] : Fin 2 → ℕ) a + S512x2048.size a ≤ S2048x2048.size a} {hl}
    {α : Type} {Q : α → sProp 𝕄} {k : Vec F S512x2048 .f32 → Prog (TpuEff nD τ sig (Elt F) Λ₀ .tc) α} :
    wPay m c ⊢ iprop((wPay m c -∗ wp frame (wpE (defs₀ (F := F)) 𝒱₀ (c : Thread nD τ) none) Set.univ (k (wg m c o i)) Q)
      -∗ wp frame (wpE (defs₀ (F := F)) 𝒱₀ (c : Thread nD τ) none) Set.univ (.op (.load wM (Rect.unit (s := S2048x2048) ![o, 0] S512x2048.size i).toLoadRect hl) k) Q) := by
  unfold wPay
  iintro ⟨H2, Hw⟩ Hk
  iapply (wp_load 𝒱₀ (c : Thread nD τ) none Set.univ (m := wM) (Finset.subset_univ _)) $$ H2
  iintro H2
  iapply Hk
  isplitl [H2] <;> iassumption

/-! ## The parts -/

set_option maxHeartbeats 2000000 in
/-- The last two transfers, the own block copied over, the wait for `w`, and the first receive wait. -/
theorem part9 (c : Dev nD) (y z : BitVec 32) {Q : (Σ' (_ : FVec F S128x2048 .f32), BitVec 32) → sProp 𝕄} :
    iprop(SndSt m K c 13 ∗ (∃ f, ((c : Thread nD τ).loc cc0_scratch3) ↦[cols {c}]{fullShare} f)
        ∗ cred (tallyAt (locCell c 1) () (dmaAmt 1)) ∗ atPos ER (locCell c 1) 0 ∅ 0
        ∗ (bigSep (others c) fun j => cred (tallyAt (rcvCell c j) () N)) ∗ (bigSep (others c) fun j => atPos ER (rcvCell c j) 0 ∅ 0)
        ∗ atPos ER (rcvCell c c) 0 ∅ 0)
      ⊢ iprop(((RcvSt m K c 1 ∗ wPay m c ∗ semVal (locCell c 1) 0 ∗ (bigSep (others c) fun b => cred (tallyAt (sndCell c (dist c b)) () N))
            ∗ (((c : Thread nD τ).loc cc0_scratch1) ↦[rows {c}]{fullShare} bC m c)) -∗ Q ⟨k0_pay4, 1#32⟩)
          -∗ wp frame (wpE (defs₀ (F := F)) 𝒱₀ (c : Thread nD τ) none) Set.univ (k0_part9 xH (Memref.isWhole_whole _) wH (Memref.isWhole_whole _) oH (Memref.isWhole_whole _) xM (Memref.isWhole_whole _) bM (Memref.isWhole_whole _) wM (Memref.isWhole_whole _) rM (Memref.isWhole_whole _) oM (Memref.isWhole_whole _) cc0_scratch5 cc0_scratch6 cc0_scratch7 c (ax c) y z) Q) := by
  simp only [k0_part9_eq_skeleton]; unfold k0_part9_skel
  simp -zeta only [semSignalWord, semWaitWord, Prog.lift, Prog.bind_op, Prog.bind_ret, Prog.pure_eq_ret, wp_deviceId]
  iintro ⟨Hs, ⟨%f, H3⟩, Hc1, Ha1, Hcs, Has, Hac⟩ Hk
  iapply (step_send m K c 13 14 ⟨by decide, rfl⟩ _ (k0_dev29_eq c) (k0_off1_eq c) (k0_off2_eq c) (k0_off3_eq c 13)) $$ Hs; iintro Hs
  iapply (step_send m K c 14 15 ⟨by decide, rfl⟩ _ (k0_dev30_eq c) (k0_off1_eq c) (k0_off2_eq c) (k0_off3_eq c 14)) $$ Hs; iintro Hs
  unfold SndSt
  rw [rem_last, sent_last, show insert c (∅ : Finset (Dev nD)) = {c} from rfl]
  icases Hs with ⟨#HR, HO, -, Hsc, H1⟩
  iapply (own_load m c (k0_off4_eq c)) $$ H1; iintro H1
  iapply (own_peek c (k0_off5_eq c) f) $$ H3; iintro H3
  iapply (own_store m c (k0_off5_eq c) f) $$ H3; iintro H3
  iapply (step_local m K c 1 (by decide) ∅ (src := wH) (dst := wM) rfl) $$ [Hc1 HO Ha1]
  · isplitr; · iexact HR
    isplitl [Hc1]; · iexact Hc1
    isplitl [HO]; · iexact HO
    iexact Ha1
  iintro ⟨HO, Hw, Hz1⟩
  ihave Hw := (show dmaPay m c 1 ⊢ wPay m c from BI.Entails.refl _) $$ Hw
  imod (close_rcv_self m K c) $$ [Hac] with Hzc
  · isplitr; · iexact HR
    iexact Hac
  ihave Hr := (rcv_start m K c) $$ [HO Hcs Has Hzc H3]
  · isplitr; · iexact HR
    isplitl [HO]; · rw [show (0 : CellTallies nD τ sig Unit) = oweSnd c ∅ from rfl]; iexact HO
    isplitl [Hcs]; · iexact Hcs
    isplitl [Has]; · iexact Has
    isplitl [Hzc] <;> iassumption
  iapply (step_recv m K c 0 1 ⟨by decide, rfl⟩ (other_iff c 0)) $$ Hr
  iintro Hr
  rw [wp_ret]; imodintro
  iapply Hk
  isplitl [Hr]; · iexact Hr
  isplitl [Hw]; · iexact Hw
  isplitl [Hz1]; · iexact Hz1
  isplitl [Hsc] <;> iassumption

set_option maxHeartbeats 2000000 in
/-- The next six receive waits, and after the first three of them the first product. -/
theorem part10 (c : Dev nD) {Q : (Σ' (_ : FVec F S128x2048 .f32), BitVec 32) → sProp 𝕄} :
    iprop(RcvSt m K c 1 ∗ wPay m c)
      ⊢ iprop(((RcvSt m K c 7 ∗ wPay m c) -∗ Q ⟨acc1 m c, isOther c 7#32⟩) -∗ wp frame (wpE (defs₀ (F := F)) 𝒱₀ (c : Thread nD τ) none) Set.univ (k0_part10 xH (Memref.isWhole_whole _) wH (Memref.isWhole_whole _) oH (Memref.isWhole_whole _) xM (Memref.isWhole_whole _) bM (Memref.isWhole_whole _) wM (Memref.isWhole_whole _) rM (Memref.isWhole_whole _) oM (Memref.isWhole_whole _) cc0_scratch5 cc0_scratch6 cc0_scratch7 (ax c) k0_pay4 1#32) Q) := by
  simp only [k0_part10_eq_skeleton]; unfold k0_part10_skel
  simp -zeta only [semSignalWord, semWaitWord, Prog.lift, Prog.bind_op, Prog.bind_ret, Prog.pure_eq_ret, wp_deviceId]
  unfold acc1
  iintro ⟨Hr, Hw⟩ Hk
  iapply (step_recv m K c 1 2 ⟨by decide, rfl⟩ (other_iff c 1)) $$ Hr; iintro Hr
  iapply (step_recv m K c 2 3 ⟨by decide, rfl⟩ (other_iff c 2)) $$ Hr; iintro Hr
  iapply (step_recv m K c 3 4 ⟨by decide, rfl⟩ (other_iff c 3)) $$ Hr; iintro Hr
  iapply (load_r m K c 4 0 (by decide)) $$ Hr; iintro Hr
  iapply (load_w m c 0) $$ Hw; iintro Hw
  iapply (step_recv m K c 4 5 ⟨by decide, rfl⟩ (other_iff c 4)) $$ Hr; iintro Hr
  iapply (step_recv m K c 5 6 ⟨by decide, rfl⟩ (other_iff c 5)) $$ Hr; iintro Hr
  iapply (step_recv m K c 6 7 ⟨by decide, rfl⟩ (other_iff c 6)) $$ Hr; iintro Hr
  rw [wp_ret]; imodintro
  iapply Hk
  isplitl [Hr] <;> iassumption

set_option maxHeartbeats 2000000 in
/-- Five more receive waits, and the second and third products. -/
theorem part11 (c : Dev nD) {Q : (Σ' (_ : FVec F S128x2048 .f32) (_ : BitVec 32), BitVec 32) → sProp 𝕄} :
    iprop(RcvSt m K c 7 ∗ wPay m c)
      ⊢ iprop(((RcvSt m K c 12 ∗ wPay m c) -∗ Q ⟨acc3 m c, isOther c 12#32, 0#32⟩)
          -∗ wp frame (wpE (defs₀ (F := F)) 𝒱₀ (c : Thread nD τ) none) Set.univ (k0_part11 xH (Memref.isWhole_whole _) wH (Memref.isWhole_whole _) oH (Memref.isWhole_whole _) xM (Memref.isWhole_whole _) bM (Memref.isWhole_whole _) wM (Memref.isWhole_whole _) rM (Memref.isWhole_whole _) oM (Memref.isWhole_whole _) cc0_scratch5 cc0_scratch6 cc0_scratch7 (ax c) (acc1 m c) (isOther c 7#32)) Q) := by
  simp only [k0_part11_eq_skeleton]; unfold k0_part11_skel
  simp -zeta only [semSignalWord, semWaitWord, Prog.lift, Prog.bind_op, Prog.bind_ret, Prog.pure_eq_ret, wp_deviceId]
  unfold acc3
  iintro ⟨Hr, Hw⟩ Hk
  iapply (step_recv m K c 7 8 ⟨by decide, rfl⟩ (other_iff c 7)) $$ Hr; iintro Hr
  iapply (load_r m K c 8 512 (by decide)) $$ Hr; iintro Hr
  iapply (load_w m c 512) $$ Hw; iintro Hw
  iapply (step_recv m K c 8 9 ⟨by decide, rfl⟩ (other_iff c 8)) $$ Hr; iintro Hr
  iapply (step_recv m K c 9 10 ⟨by decide, rfl⟩ (other_iff c 9)) $$ Hr; iintro Hr
  iapply (step_recv m K c 10 11 ⟨by decide, rfl⟩ (other_iff c 10)) $$ Hr; iintro Hr
  iapply (step_recv m K c 11 12 ⟨by decide, rfl⟩ (other_iff c 11)) $$ Hr; iintro Hr
  iapply (load_r m K c 12 1024 (by decide)) $$ Hr; iintro Hr
  iapply (load_w m c 1024) $$ Hw; iintro Hw
  rw [wp_ret]; imodintro
  iapply Hk
  isplitl [Hr] <;> iassumption

/-- Writing all of the result's buffer leaves what was written. -/
theorem write_o (f w : Vec F S128x2048 .f32) {h : ∀ a, (![0, 0] : Fin 2 → ℕ) a + S128x2048.size a ≤ S128x2048.size a} :
    (oM.access (Rect.unit (s := S128x2048) ![0, 0] S128x2048.size h)).write (Elt F) f w Finset.univ = w :=
  Memref.write_access_unit_zero_univ (Elt F) cc0_scratch4 hz2 _ f w

set_option maxHeartbeats 2000000 in
/-- The last four receive waits, the fourth product and the activation: the result is made. -/
theorem part12 (c : Dev nD) {Q : PUnit → sProp 𝕄} :
    iprop(RcvSt m K c 12 ∗ wPay m c ∗ hole c cc0_scratch4)
      ⊢ iprop(((RcvSt m K c 16 ∗ wPay m c ∗ (((c : Thread nD τ).loc cc0_scratch4) ↦{fullShare} oC m c)) -∗ Q ⟨⟩)
          -∗ wp frame (wpE (defs₀ (F := F)) 𝒱₀ (c : Thread nD τ) none) Set.univ (k0_part12 xH (Memref.isWhole_whole _) wH (Memref.isWhole_whole _) oH (Memref.isWhole_whole _) xM (Memref.isWhole_whole _) bM (Memref.isWhole_whole _) wM (Memref.isWhole_whole _) rM (Memref.isWhole_whole _) oM (Memref.isWhole_whole _) cc0_scratch5 cc0_scratch6 cc0_scratch7 (ax c) (acc3 m c) (isOther c 12#32) 0#32) Q) := by
  simp only [k0_part12_eq_skeleton]; unfold k0_part12_skel
  simp -zeta only [semSignalWord, semWaitWord, Prog.lift, Prog.bind_op, Prog.bind_ret, Prog.pure_eq_ret, wp_deviceId]
  iintro ⟨Hr, Hw, ⟨%f4, H4⟩⟩ Hk
  iapply (step_recv m K c 12 13 ⟨by decide, rfl⟩ (other_iff c 12)) $$ Hr; iintro Hr
  iapply (step_recv m K c 13 14 ⟨by decide, rfl⟩ (other_iff c 13)) $$ Hr; iintro Hr
  iapply (step_recv m K c 14 15 ⟨by decide, rfl⟩ (other_iff c 14)) $$ Hr; iintro Hr
  iapply (step_recv m K c 15 16 ⟨by decide, rfl⟩ (other_iff c 15)) $$ Hr; iintro Hr
  iapply (load_r m K c 16 1536 (by decide)) $$ Hr; iintro Hr
  iapply (load_w m c 1536) $$ Hw; iintro Hw
  iapply (wp_load 𝒱₀ (c : Thread nD τ) none Set.univ (m := oM) (Finset.subset_univ _)) $$ H4; iintro H4
  iapply (wp_store 𝒱₀ (c : Thread nD τ) none Set.univ (m := oM) (r := Rect.unit (s := S128x2048) ![0, 0] S128x2048.size inb_S128x2048_S128x2048_0_0)
    (Mk := Finset.univ) (Finset.subset_univ _)) $$ H4; iintro H4
  rw [write_o, wp_ret]; imodintro
  iapply Hk
  isplitl [Hr]; · iexact Hr
  isplitl [Hw]; · iexact Hw
  iexact H4

/-- All send waits still to be made. -/
theorem sw_start (c : Dev nD) :
    iprop(records m K ∗ ow c 0 ∗ (bigSep (others c) fun b => cred (tallyAt (sndCell c (dist c b)) () N))
      ∗ (bigSep (others c) fun b => atPos ER (sndCell c (dist c b)) 0 ∅ 0)
      ∗ (((c : Thread nD τ).loc cc0_scratch1) ↦[rows {c}]{fullShare} bC m c)) ⊢ SwSt m K c 0 := by
  unfold SwSt
  rw [rem_zero, sent_zero, bigSep_empty, bigSep_sep']
  iintro ⟨#HR, HO, H1, H2, Hf⟩
  isplitr; · iexact HR
  isplitl [HO]; · iexact HO
  isplitl [H1 H2]
  · isplitl [H1] <;> iassumption
  isplitr; · iempintro
  iexact Hf

set_option maxHeartbeats 2000000 in
/-- The result copied out, and the first six send waits. -/
theorem part13 (c : Dev nD) {Q : PUnit → sProp 𝕄} :
    iprop(records m K ∗ ow c 0 ∗ (((c : Thread nD τ).loc cc0_scratch4) ↦{fullShare} oC m c) ∗ hole c main_v1
        ∗ dutyTok ER (locCell c 2) 0 (0 : Fin 16) ∗ atPos ER (locCell c 2) 0 ∅ 0
        ∗ (bigSep (others c) fun b => cred (tallyAt (sndCell c (dist c b)) () N))
        ∗ (bigSep (others c) fun b => atPos ER (sndCell c (dist c b)) 0 ∅ 0)
        ∗ (((c : Thread nD τ).loc cc0_scratch1) ↦[rows {c}]{fullShare} bC m c))
      ⊢ iprop(((SwSt m K c 6 ∗ oPay m c ∗ semVal (locCell c 2) 0) -∗ Q ⟨⟩) -∗ wp frame (wpE (defs₀ (F := F)) 𝒱₀ (c : Thread nD τ) none) Set.univ (k0_part13 xH (Memref.isWhole_whole _) wH (Memref.isWhole_whole _) oH (Memref.isWhole_whole _) xM (Memref.isWhole_whole _) bM (Memref.isWhole_whole _) wM (Memref.isWhole_whole _) rM (Memref.isWhole_whole _) oM (Memref.isWhole_whole _) cc0_scratch5 cc0_scratch6 cc0_scratch7 c) Q) := by
  simp only [k0_part13_eq_skeleton]; unfold k0_part13_skel
  simp -zeta only [semSignalWord, semWaitWord, Prog.lift, Prog.bind_op, Prog.bind_ret, Prog.pure_eq_ret, wp_deviceId]
  iintro ⟨#HR, HO, H4, ⟨%fo, Hv⟩, Ht, Ha, Hcs, Has, H1⟩ Hk
  iapply (step_copy m K c 2 (by decide) (src := oM) (dst := oH) (oC m c) fo rfl
    (by rw [View.write_whole_univ, View.read_whole, View.set_whole, View.set_whole]; exact BI.Entails.refl _)) $$ [H4 Hv Ht]
  · isplitr; · iexact HR
    rw [View.set_whole, View.set_whole]
    isplitl [H4]; · iexact H4
    isplitl [Hv]; · iexact Hv
    iexact Ht
  iintro Hc
  iapply (step_local m K c 2 (by decide) ∅ (src := oM) (dst := oH) rfl) $$ [Hc HO Ha]
  · isplitr; · iexact HR
    isplitl [Hc]; · iexact Hc
    isplitl [HO]; · rw [show oweSnd c ∅ = (0 : CellTallies nD τ sig Unit) from rfl]; iexact HO
    iexact Ha
  iintro ⟨HO, Ho, Hz⟩
  ihave Ho := (show dmaPay m c 2 ⊢ oPay m c from BI.Entails.refl _) $$ Ho
  ihave Hs := (sw_start m K c) $$ [HO Hcs Has H1]
  · isplitr; · iexact HR
    isplitl [HO]; · rw [show (0 : CellTallies nD τ sig Unit) = oweSnd c ∅ from rfl]; iexact HO
    isplitl [Hcs]; · iexact Hcs
    isplitl [Has] <;> iassumption
  iapply (step_sendwait m K c 0 1 ⟨by decide, rfl⟩) $$ Hs; iintro Hs
  iapply (step_sendwait m K c 1 2 ⟨by decide, rfl⟩) $$ Hs; iintro Hs
  iapply (step_sendwait m K c 2 3 ⟨by decide, rfl⟩) $$ Hs; iintro Hs
  iapply (step_sendwait m K c 3 4 ⟨by decide, rfl⟩) $$ Hs; iintro Hs
  iapply (step_sendwait m K c 4 5 ⟨by decide, rfl⟩) $$ Hs; iintro Hs
  iapply (step_sendwait m K c 5 6 ⟨by decide, rfl⟩) $$ Hs; iintro Hs
  rw [wp_ret]; imodintro
  iapply Hk
  isplitl [Hs]; · iexact Hs
  isplitl [Ho]; · iexact Ho
  iexact Hz

set_option maxHeartbeats 2000000 in
/-- Six more send waits. -/
theorem part14 (c : Dev nD) {Q : PUnit → sProp 𝕄} :
    SwSt m K c 6 ⊢ iprop((SwSt m K c 12 -∗ Q ⟨⟩) -∗ wp frame (wpE (defs₀ (F := F)) 𝒱₀ (c : Thread nD τ) none) Set.univ (k0_part14 xH (Memref.isWhole_whole _) wH (Memref.isWhole_whole _) oH (Memref.isWhole_whole _) xM (Memref.isWhole_whole _) bM (Memref.isWhole_whole _) wM (Memref.isWhole_whole _) rM (Memref.isWhole_whole _) oM (Memref.isWhole_whole _) cc0_scratch5 cc0_scratch6 cc0_scratch7 c) Q) := by
  simp only [k0_part14_eq_skeleton]; unfold k0_part14_skel
  simp -zeta only [semSignalWord, semWaitWord, Prog.lift, Prog.bind_op, Prog.bind_ret, Prog.pure_eq_ret, wp_deviceId]
  iintro Hs Hk
  iapply (step_sendwait m K c 6 7 ⟨by decide, rfl⟩) $$ Hs; iintro Hs
  iapply (step_sendwait m K c 7 8 ⟨by decide, rfl⟩) $$ Hs; iintro Hs
  iapply (step_sendwait m K c 8 9 ⟨by decide, rfl⟩) $$ Hs; iintro Hs
  iapply (step_sendwait m K c 9 10 ⟨by decide, rfl⟩) $$ Hs; iintro Hs
  iapply (step_sendwait m K c 10 11 ⟨by decide, rfl⟩) $$ Hs; iintro Hs
  iapply (step_sendwait m K c 11 12 ⟨by decide, rfl⟩) $$ Hs; iintro Hs
  rw [wp_ret]; imodintro
  iapply Hk; iexact Hs

end Cert.KernelIdeal.Exchange

end
-- ==== Proof.Body.lean ====
/-
# The whole kernel on one device

What a device starts with — the credits it owes, its tokens, its positions at its 36 cells, its buffers — and what it ends
with: every cell at zero, the arguments as they were, the result in place.
-/
module

public import proofs.«01_k».proof.Proof.Mid

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (DmaSem sig) → ℕ)

/-! ## The cells of one device -/

/-- The send cells among a device's cells. -/
def sndO : Fin 16 ↪ Option (DmaSem sig) := ⟨fun s => some (sndS s), by decide⟩
/-- The receive cells among a device's cells. -/
def rcvO : Dev nD ↪ Option (DmaSem sig) := ⟨fun j => some (rcvS j), by decide⟩

/-- A device's cells: the barrier, three local completions, the send cells and the receive cells. -/
theorem univ_cells : (Finset.univ : Finset (Option (DmaSem sig)))
    = insert none (insert (some (locS 0)) (insert (some (locS 1)) (insert (some (locS 2))
        (Finset.univ.map sndO ∪ Finset.univ.map rcvO)))) := by decide

/-- The send cells of `c`, numbered by the device at that distance. -/
def distEquiv (c : Dev nD) : Dev nD ≃ Fin 16 := ⟨dist c, fun s => sh c s.val, sh_dist c, dist_sh c⟩

/-- A device and the others are all. -/
theorem insert_others (c : Dev nD) : insert c (others c) = Finset.univ := Finset.insert_erase (Finset.mem_univ c)

/-- A fact about each of a device's cells: about the barrier, the three local cells, the send cells and the receive cells,
    of these two the one that is never used first. -/
theorem cells_split (c : Dev nD) (Φ : GSem nD τ sig → sProp 𝕄) :
    (bigSep Finset.univ fun o => Φ (kcell (c, o)))
      = iprop(Φ (barCell c) ∗ Φ (locCell c 0) ∗ Φ (locCell c 1) ∗ Φ (locCell c 2)
          ∗ (Φ (sndCell c 0) ∗ bigSep (others c) fun b => Φ (sndCell c (dist c b)))
          ∗ (Φ (rcvCell c c) ∗ bigSep (others c) fun j => Φ (rcvCell c j))) := by
  rw [univ_cells, bigSep_ins (by decide), bigSep_ins (by decide), bigSep_ins (by decide), bigSep_ins (by decide),
    bigSep_union (by decide), bigSep_map, bigSep_map, bigSep_univ_equiv (distEquiv c) (fun s => Φ (kcell (c, sndO s))),
    bigSep_univ_at _ c, bigSep_univ_at (fun j => Φ (kcell (c, rcvO j))) c]
  show iprop(Φ (barCell c) ∗ Φ (locCell c 0) ∗ Φ (locCell c 1) ∗ Φ (locCell c 2)
          ∗ (Φ (sndCell c (dist c c)) ∗ bigSep (others c) fun b => Φ (sndCell c (dist c b)))
          ∗ (Φ (rcvCell c c) ∗ bigSep (others c) fun j => Φ (rcvCell c j))) = _
  rw [dist_self]

/-! ## Start and end -/

/-- What a device holds besides its buffers when the kernel starts. -/
def ghost (c : Dev nD) : sProp 𝕄 :=
  iprop((bigSep Finset.univ fun o => atPos ER (kcell (c, o)) 0 ∅ 0)
    ∗ ((bigSep (others c) fun b => dutyTok ER (barCell b) 0 c)
      ∗ (bigSep (others c) fun b => dutyTok ER (rcvCell b c) 0 (0 : Fin 16))
      ∗ (bigSep (others c) fun b => dutyTok ER (sndCell c (dist c b)) 0 (0 : Fin 16))
      ∗ dutyTok ER (locCell c 0) 0 (0 : Fin 16) ∗ dutyTok ER (locCell c 1) 0 (0 : Fin 16) ∗ dutyTok ER (locCell c 2) 0 (0 : Fin 16)))

/-- The credits it is owed: a signal from every other device, and a block from every other device. -/
def creds (c : Dev nD) : sProp 𝕄 :=
  iprop(cred (tallyAt (barCell c) () 15) ∗ bigSep (others c) fun j => cred (tallyAt (rcvCell c j) () N))

/-- The scratch buffers at whatever they hold. -/
def scratch (c : Dev nD) : sProp 𝕄 :=
  iprop(hole c cc0_scratch0 ∗ hole c cc0_scratch1 ∗ hole c cc0_scratch2 ∗ hole c cc0_scratch3 ∗ hole c cc0_scratch4)

/-- The arguments. -/
def args (c : Dev nD) : sProp 𝕄 :=
  iprop((((c : Thread nD τ).loc main_arg0) ↦{fullShare} xC m c) ∗ (((c : Thread nD τ).loc main_arg1) ↦{fullShare} wC m c))

/-- The kernel's end: all cells at zero, nothing owed, the result in place. -/
def done (c : Dev nD) : sProp 𝕄 :=
  iprop((bigSep Finset.univ fun o => semVal (kcell (c, o)) 0) ∗ ow c 0 ∗ scratch c ∗ args m c
    ∗ (((c : Thread nD τ).loc main_v1) ↦{fullShare} oC m c))

/-- The end, put together from its parts. -/
theorem done_intro (c : Dev nD) :
    iprop(semVal (barCell c) 0 ∗ semVal (locCell c 0) 0 ∗ semVal (locCell c 1) 0 ∗ semVal (locCell c 2) 0 ∗ semVal (sndCell c 0) 0
      ∗ (bigSep (others c) fun b => semVal (sndCell c (dist c b)) 0) ∗ (bigSep Finset.univ fun j => semVal (rcvCell c j) 0) ∗ ow c 0
      ∗ xPay m c ∗ wPay m c ∗ oPay m c ∗ (((c : Thread nD τ).loc cc0_scratch1) ↦{fullShare} bC m c)
      ∗ (((c : Thread nD τ).loc cc0_scratch3) ↦{fullShare} rC m c)) ⊢ done m c := by
  unfold done scratch args xPay wPay oPay
  rw [cells_split c (fun g => (semVal g 0 : sProp 𝕄)), bigSep_univ_at (fun j => (semVal (rcvCell c j) 0 : sProp 𝕄)) c]
  iintro ⟨Hzb, Hz0, Hz1, Hz2, Hzz, Hzs, ⟨Hzc, Hzr⟩, HO, ⟨H0, Hx⟩, ⟨H2, Hw⟩, ⟨Hv, H4⟩, H1, H3⟩
  isplitl [Hzb Hz0 Hz1 Hz2 Hzz Hzs Hzc Hzr]
  · isplitl [Hzb]; · iexact Hzb
    isplitl [Hz0]; · iexact Hz0
    isplitl [Hz1]; · iexact Hz1
    isplitl [Hz2]; · iexact Hz2
    isplitl [Hzz Hzs]
    · isplitl [Hzz] <;> iassumption
    isplitl [Hzc] <;> iassumption
  isplitl [HO]; · iexact HO
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  isplitl [Hx Hw]
  · isplitl [Hx] <;> iassumption
  iexact Hv

set_option maxHeartbeats 4000000 in
/-- The kernel on device `c`. -/
theorem body_run (c : Dev nD) {Q : PUnit → sProp 𝕄} :
    iprop(records m K ∗ ow c (O₀ c) ∗ ghost c ∗ creds c ∗ scratch c ∗ args m c ∗ hole c main_v1)
      ⊢ iprop((done m c -∗ Q ⟨⟩) -∗ wp frame (wpE (defs₀ (F := F)) 𝒱₀ (c : Thread nD τ) none) Set.univ (cc0_body xH (Memref.isWhole_whole _) wH (Memref.isWhole_whole _) oH (Memref.isWhole_whole _) xM (Memref.isWhole_whole _) bM (Memref.isWhole_whole _) wM (Memref.isWhole_whole _) rM (Memref.isWhole_whole _) oM (Memref.isWhole_whole _) cc0_scratch5 cc0_scratch6 cc0_scratch7) Q) := by
  unfold ghost creds scratch args
  rw [cells_split c (fun g => (atPos ER g 0 ∅ 0 : sProp 𝕄))]
  simp only [cc0_body_eq_skeleton]; unfold cc0_body_skel
  simp -zeta only [Prog.lift, Prog.bind_op, Prog.bind_ret, Prog.pure_eq_ret]
  iintro ⟨#HR, HO, ⟨⟨Hab, Ha0, Ha1, Ha2, ⟨Hasz, Has⟩, ⟨Harz, Har⟩⟩, Htb, Htr, Hts, Ht0, Ht1, Ht2⟩, ⟨Hcb, Hcr⟩, ⟨H0, H1, H2, ⟨%f3, H3⟩, H4⟩, ⟨Hx, Hw⟩, Ho⟩ Hk
  rw [wp_bind]
  iapply (part1 m K c) $$ [HO Htb H3 H0 Hx Ht0 H2 Hw Ht1]
  · isplitr; · iexact HR
    isplitl [HO Htb H3]
    · unfold SigSt
      rw [rem_zero, insert_others, cols, fib_univ]
      isplitr; · iexact HR
      isplitl [HO]; · iexact HO
      isplitl [Htb]; · iexact Htb
      iexists f3; iexact H3
    isplitl [H0]; · iexact H0
    isplitl [Hx]; · iexact Hx
    isplitl [Ht0]; · iexact Ht0
    isplitl [H2]; · iexact H2
    isplitl [Hw] <;> iassumption
  iintro %v ⟨Hs, Hc0, Hc1⟩
  dsimp only
  rw [wp_bind]
  iapply (part2 m K c) $$ Hs
  iintro %v2 Hs
  rw [wp_bind]
  iapply (part3 m K c) $$ [Hs Hcb Hab Hc0 Ha0 H1]
  · isplitr; · iexact HR
    isplitl [Hs]; · iexact Hs
    isplitl [Hcb]; · iexact Hcb
    isplitl [Hab]; · iexact Hab
    isplitl [Hc0]; · iexact Hc0
    isplitl [Ha0] <;> iassumption
  iintro ⟨HO, Hbp, H3, Hzb, Hx, Hz0, H1⟩
  rw [wp_bind]
  iapply (part4 m K c) $$ [HO Htr Hts Hbp H1]
  · isplitr; · iexact HR
    isplitl [HO]; · iexact HO
    isplitl [Htr]; · iexact Htr
    isplitl [Hts]; · iexact Hts
    isplitl [Hbp] <;> iassumption
  iintro Hs
  rw [wp_bind]
  iapply (part5 m K c) $$ Hs
  iintro %v5 Hs
  rw [wp_bind]
  iapply (part6 m K c) $$ Hs
  iintro %v6 Hs
  rw [wp_bind]
  iapply (part7 m K c) $$ Hs
  iintro Hs
  rw [wp_bind]
  iapply (part8 m K c) $$ Hs
  iintro %v8 Hs
  rw [wp_bind]
  iapply (part9 m K c) $$ [Hs H3 Hc1 Ha1 Hcr Har Harz]
  · isplitl [Hs]; · iexact Hs
    isplitl [H3]; · iexact H3
    isplitl [Hc1]; · iexact Hc1
    isplitl [Ha1]; · iexact Ha1
    isplitl [Hcr]; · iexact Hcr
    isplitl [Har] <;> iassumption
  iintro ⟨Hs, Hw, Hz1, Hcs, H1⟩
  dsimp only
  rw [wp_bind]
  iapply (part10 m K c) $$ [Hs Hw]
  · isplitl [Hs] <;> iassumption
  iintro ⟨Hs, Hw⟩
  dsimp only
  rw [wp_bind]
  iapply (part11 m K c) $$ [Hs Hw]
  · isplitl [Hs] <;> iassumption
  iintro ⟨Hs, Hw⟩
  dsimp only
  rw [wp_bind]
  iapply (part12 m K c) $$ [Hs Hw H4]
  · isplitl [Hs]; · iexact Hs
    isplitl [Hw] <;> iassumption
  iintro ⟨Hr, Hw, H4⟩
  unfold RcvSt
  rw [compl_upto_last, upto_last, cols, fib_univ]
  icases Hr with ⟨-, HO, -, Hzr, H3⟩
  rw [wp_bind]
  iapply (part13 m K c) $$ [HO H4 Ho Ht2 Ha2 Hcs Has H1]
  · isplitr; · iexact HR
    isplitl [HO]; · iexact HO
    isplitl [H4]; · iexact H4
    isplitl [Ho]; · iexact Ho
    isplitl [Ht2]; · iexact Ht2
    isplitl [Ha2]; · iexact Ha2
    isplitl [Hcs]; · iexact Hcs
    isplitl [Has] <;> iassumption
  iintro ⟨Hs, Ho, Hz2⟩
  rw [wp_bind]
  iapply (part14 m K c) $$ Hs
  iintro Hs
  iapply (step_sendwait m K c 12 13 ⟨by decide, rfl⟩) $$ Hs; iintro Hs
  iapply (step_sendwait m K c 13 14 ⟨by decide, rfl⟩) $$ Hs; iintro Hs
  iapply (step_sendwait m K c 14 15 ⟨by decide, rfl⟩) $$ Hs; iintro Hs
  unfold SwSt
  rw [sent_last, insert_others, rows, fib_univ]
  icases Hs with ⟨-, HO, -, Hzs, H1⟩
  imod (close_snd_zero m K c) $$ [Hasz] with Hzz
  · isplitr; · iexact HR
    iexact Hasz
  rw [wp_ret]; imodintro
  iapply Hk
  iapply (done_intro m c)
  isplitl [Hzb]; · iexact Hzb
  isplitl [Hz0]; · iexact Hz0
  isplitl [Hz1]; · iexact Hz1
  isplitl [Hz2]; · iexact Hz2
  isplitl [Hzz]; · iexact Hzz
  isplitl [Hzs]; · iexact Hzs
  isplitl [Hzr]; · iexact Hzr
  isplitl [HO]; · iexact HO
  isplitl [Hx]; · iexact Hx
  isplitl [Hw]; · iexact Hw
  isplitl [Ho]; · iexact Ho
  isplitl [H1] <;> iassumption

end Cert.KernelIdeal.Exchange

end
-- ==== Proof.Launch.lean ====
/-
# The launch

The sixteen devices' cells set up together: every cell's invariant, the tokens dealt to the devices that pay them, the
credits of what each device is owed; then the run of the whole program.
-/
module

public import proofs.«01_k».proof.Proof.Body
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- The kernel's grid has one point. -/
theorem cfg0_N : cfg0.N = 1 := by decide
/-- That point. -/
def t₀ : Fin cfg0.N := ⟨0, by rw [cfg0_N]; decide⟩
/-- Every point is that one. -/
theorem fin_N (t : Fin cfg0.N) : t = t₀ := by
  obtain ⟨t, ht⟩ := t; have := cfg0_N; exact Fin.ext (by simp only [t₀]; omega)

/-- What a device holds when the kernel starts, its scratch buffers apart. -/
def start (c : Dev nD) : sProp 𝕄 :=
  iprop((∃ K, records m K ∗ ghost c) ∗ creds c ∗ args m c ∗ hole c main_v1)

/-- What a device holds when the kernel has ended. -/
def finish (c : Dev nD) : sProp 𝕄 :=
  iprop((bigSep Finset.univ fun o => semVal (kcell (c, o)) 0) ∗ scratch c ∗ args m c ∗ (((c : Thread nD τ).loc main_v1) ↦{fullShare} oC m c))

/-- The machine at the start: the given memory, every counter zero. -/
abbrev s₀ : MemSt nD τ sig (Elt F) := ⟨m, fun _ => 0, ρ⟩

/-- What holds before and after the one grid point, and what is owed there. -/
def dats (_ : Fin 1) (c : Dev nD) : Pipeline.Dat τ (Elt F) Unit ℕ UU ℕ cfg0 c where
  A w := (s₀ m ρ).mem ((cfg0.win w).arr.view.loc (c : Thread nD τ))
  after w _ := w.elim0
  Φ t := match t with
    | ⟨0, _⟩ => iprop(start m c ∗ scratch c)
    | ⟨_ + 1, _⟩ => finish m c
  q _ := fullShare
  owed t := match t with
    | ⟨0, _⟩ => O₀ c
    | ⟨_ + 1, _⟩ => 0

/-- The kernel at its one point. -/
theorem body_obligation (c : Dev nD) : Pipeline.BodyObligation (dats (F := F) m ρ 0 c) (defs₀ (F := F)) 𝒱₀ () Set.univ := fun t => by
  rw [fin_N t]
  show iprop(iprop(start m c ∗ scratch c) ∗ (dats m ρ 0 c).owesAt () t₀.castSucc ∗ _)
    ⊢ wp frame (wpE (defs₀ (F := F)) 𝒱₀ (c : Thread nD τ) none) Set.univ (cc0_body xH (Memref.isWhole_whole _) wH (Memref.isWhole_whole _) oH (Memref.isWhole_whole _) xM (Memref.isWhole_whole _) bM (Memref.isWhole_whole _) wM (Memref.isWhole_whole _) rM (Memref.isWhole_whole _) oM (Memref.isWhole_whole _) cc0_scratch5 cc0_scratch6 cc0_scratch7) (fun _ => iprop(finish m c ∗ (dats m ρ 0 c).owesAt () t₀.succ ∗ _))
  unfold start
  iintro ⟨⟨⟨⟨%K, HR, Hg⟩, Hc, Ha, Hv⟩, Hs⟩, Ho, He⟩
  unfold Pipeline.Dat.owesAt Pipeline.owesWithin
  icases Ho with ⟨%W, %hW, HO⟩
  rw [show (dats m ρ 0 c).owed t₀.castSucc = O₀ c from rfl]
  iapply (body_run m K c) $$ [HR Hg Hc Ha Hv Hs HO]
  · isplitl [HR]; · iexact HR
    isplitl [HO]; · unfold ow; iexists W; iexact HO
    isplitl [Hg]; · iexact Hg
    isplitl [Hc]; · iexact Hc
    isplitl [Hs]; · iexact Hs
    isplitl [Ha] <;> iassumption
  unfold done finish ow
  iintro ⟨Hz, ⟨%W', HO⟩, Hs, Ha, Hv⟩
  isplitl [Hz Hs Ha Hv]
  · isplitl [Hz]; · iexact Hz
    isplitl [Hs]; · iexact Hs
    isplitl [Ha] <;> iassumption
  isplitl [HO]
  · iexists W'
    isplitr; · ipureintro; exact fun _ _ => Or.inl trivial
    iexact HO
  iexact He

/-! ## The launch's ghost state -/

/-- The DMA semaphores are the kernel's own. -/
abbrev osem : DmaSem sig → SemLoc sig := fun k => .dma k
/-- They are all scoped to the kernel. -/
theorem ownSemFacts : Pipeline.OwnSemFacts cfg0.spec osem := by decide

/-- Different names are different semaphores. -/
theorem csem_injective : Function.Injective (csem : Option (DmaSem sig) → SemLoc sig) := by
  rintro (_ | a) (_ | b) h
  · rfl
  · exact absurd h (by intro h; cases h)
  · exact absurd h (by intro h; cases h)
  · exact congrArg some (SemLoc.dma.inj h)
/-- Different names are different cells. -/
theorem kcell_injective : Function.Injective (kcell : Dev nD × Option (DmaSem sig) → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]

/-- All the cells. -/
def allCells : Finset (GSem nD τ sig) := Finset.univ.map ⟨kcell, kcell_injective⟩

/-- A token for every cell and every device that may pay it. -/
abbrev tokOf (x : (Dev nD × Option (DmaSem sig)) × Fin 16) : GSem nD τ sig × ℕ × Fin 16 := (kcell x.1, 0, x.2)
/-- Different duties have different tokens. -/
theorem tokOf_injective : Function.Injective tokOf := by
  rintro ⟨a, d⟩ ⟨a', d'⟩ h
  have h1 := kcell_injective (congrArg Prod.fst h)
  have h2 : d = d' := congrArg (fun y => y.2.2) h
  rw [show a = a' from h1, h2]
/-- All the tokens. -/
def allToks : Finset (GSem nD τ sig × ℕ × Fin 16) := Finset.univ.map ⟨tokOf, tokOf_injective⟩

/-- The resources at the start: the pipeline library's and this exchange's. -/
def u₀ : UU :=
  (initOf (Pipeline.cells cfgs cellOf_inj) (Pipeline.launchToks cfgs cellOf_inj), initOf allCells allToks)

/-- The tokens of device `c`'s own cells. -/
def toks (c : Dev nD) : sProp 𝕄 := bigSep Finset.univ fun o => bigSep Finset.univ fun d : Fin 16 => dutyTok ER (kcell (c, o)) 0 d

/-- Device `c`'s share of them: its cells' states, positions and tokens. -/
def G (c : Dev nD) : sProp 𝕄 :=
  iprop((bigSep Finset.univ fun o => roundState ER (xRd m) (kcell (c, o)) 0)
    ∗ ((bigSep Finset.univ fun o => atPos ER (kcell (c, o)) 0 ∅ 0) ∗ (bigSep Finset.univ fun o => reached ER (kcell (c, o)) 0)) ∗ toks c)

/-- The records without the levels. -/
def cellRecs (K : Dev nD × Option (DmaSem sig) → ℕ) : sProp 𝕄 :=
  iprop((bigSep Finset.univ fun ck => cellInv ER (xRd m) (K ck) (kcell ck)) ∗ (bigSep Finset.univ fun ck => reached ER (kcell ck) 0))
/-- They may be used any number of times. -/
instance cellRecs_persistent (K : Dev nD × Option (DmaSem sig) → ℕ) : BI.Persistent (cellRecs m K) := by unfold cellRecs; infer_instance

/-- The share once the invariants are set up and the tokens dealt. -/
def G' (c : Dev nD) : sProp 𝕄 := iprop(∃ K, cellRecs m K ∗ ghost c)

/-- This exchange's resources are shared out among the devices. -/
theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun o => Φ (kcell (c, o)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod, bigSep_univ_prod]; rfl
  iintro HX
  imod (Rounds.fund ER (xRd m) allCells allToks) $$ HX with ⟨Hst, Hr, Hat, Htok⟩
  imodintro
  ihave Hst' := (Entails.of_eq (hX fun g => roundState ER (xRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier is the launch's one semaphore outside the kernel's scope; the other 35 are the kernel's own. -/
theorem sems_eq (c : Dev nD) :
    (bigSep Finset.univ fun o => (semVal (kcell (c, o)) 0 : sProp 𝕄))
      = iprop(unscopedSems0 c ∗ Pipeline.ownSems0 (Ix := Unit) (Name := ℕ) (U := UU) (Lvl := ℕ) (Val := Elt F) (τ := τ) osem c) := by
  have h : (Finset.univ : Finset (Option (DmaSem sig))) = insert none (Finset.univ.map Function.Embedding.some) := by decide
  rw [h, bigSep_ins (by decide), bigSep_map]
  unfold unscopedSems0; rw [bigSep_eq_bigSepL_of_eq [SemLoc.reg barS] (by decide) (by decide)]; rfl

/-- A device's counters at zero and its cells' states make its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun o => iprop(∃ κ : ℕ, cellInv ER (xRd m) κ (kcell (c, o))))
          ∗ ((bigSep Finset.univ fun o => atPos ER (kcell (c, o)) 0 ∅ 0) ∗ (bigSep Finset.univ fun o => reached ER (kcell (c, o)) 0)) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun o => semVal (kcell (c, o)) 0) ∗ bigSep Finset.univ fun o => roundState ER (xRd m) (kcell (c, o)) 0)
      ⊢ (|={Set.univ}=> bigSep Finset.univ fun o => iprop(∃ κ : ℕ, cellInv ER (xRd m) κ (kcell (c, o))) : sProp 𝕄) from by
        rw [← bigSep_sep']
        exact (bigSep_mono fun o _ => (Rounds.body_intro ER (xRd m) (kcell (c, o))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt -/

/-- A resource for every other device, as one for every device. -/
theorem others_ite (c : Dev nD) (Φ : Dev nD → sProp 𝕄) :
    bigSep (others c) Φ = bigSep Finset.univ fun b => if b = c then iprop(emp) else Φ b := by
  rw [bigSep_univ_at _ c, if_pos rfl, show (iprop(emp ∗ _) : sProp 𝕄) = _ from equiv_iff.mp emp_sep]
  exact bigSep_congr fun b hb => by rw [if_neg (Finset.ne_of_mem_erase hb)]

/-- Something for every pair of different devices, held by the one or by the other. -/
theorem others_swap (Φ : Dev nD → Dev nD → sProp 𝕄) :
    (bigSep Finset.univ fun c => bigSep (others c) fun b => Φ c b) = bigSep Finset.univ fun c => bigSep (others c) fun b => Φ b c := by
  rw [bigSep_congr fun c _ => others_ite c (Φ c), bigSep_congr fun c _ => others_ite c (fun b => Φ b c),
    ← bigSep_univ_prod (fun x : Dev nD × Dev nD => if x.2 = x.1 then iprop(emp) else Φ x.1 x.2),
    ← bigSep_univ_prod (fun x : Dev nD × Dev nD => if x.2 = x.1 then iprop(emp) else Φ x.2 x.1),
    bigSep_univ_equiv (Equiv.prodComm (Dev nD) (Dev nD)) (fun x : Dev nD × Dev nD => if x.2 = x.1 then iprop(emp) else Φ x.1 x.2)]
  refine bigSep_congr fun x _ => ?_
  show (if x.1 = x.2 then _ else Φ x.2 x.1) = _
  by_cases h : x.1 = x.2
  · rw [if_pos h, if_pos h.symm]
  · rw [if_neg h, if_neg fun h' => h h'.symm]

/-- Of its own cells' tokens the ones that are ever used. -/
def usedToks (c : Dev nD) : sProp 𝕄 :=
  iprop((bigSep (others c) fun b => dutyTok ER (barCell c) 0 b) ∗ (bigSep (others c) fun j => dutyTok ER (rcvCell c j) 0 (0 : Fin 16))
    ∗ (bigSep (others c) fun b => dutyTok ER (sndCell c (dist c b)) 0 (0 : Fin 16))
    ∗ dutyTok ER (locCell c 0) 0 (0 : Fin 16) ∗ dutyTok ER (locCell c 1) 0 (0 : Fin 16) ∗ dutyTok ER (locCell c 2) 0 (0 : Fin 16))

/-- Of a device's tokens, those that are used. -/
theorem toks_used (c : Dev nD) : (toks c : sProp 𝕄) ⊢ usedToks c := by
  unfold toks usedToks
  rw [cells_split c (fun g => bigSep Finset.univ fun d : Fin 16 => (dutyTok ER g 0 d : sProp 𝕄)),
    bigSep_univ_at (fun d : Fin 16 => (dutyTok ER (barCell c) 0 d : sProp 𝕄)) c]
  have one (g : GSem nD τ sig) : (bigSep Finset.univ fun d : Fin 16 => (dutyTok ER g 0 d : sProp 𝕄)) ⊢ dutyTok ER g 0 (0 : Fin 16) :=
    bigSep_elim (Finset.mem_univ 0)
  iintro ⟨⟨-, Hb⟩, H0, H1, H2, ⟨-, Hs⟩, ⟨-, Hr⟩⟩
  isplitl [Hb]; · iexact Hb
  isplitl [Hr]
  · iapply (show (bigSep (others c) fun j => bigSep Finset.univ fun d : Fin 16 => (dutyTok ER (rcvCell c j) 0 d : sProp 𝕄)) ⊢ _
      from bigSep_mono fun j _ => one (rcvCell c j))
    iexact Hr
  isplitl [Hs]
  · iapply (show (bigSep (others c) fun b => bigSep Finset.univ fun d : Fin 16 => (dutyTok ER (sndCell c (dist c b)) 0 d : sProp 𝕄)) ⊢ _
      from bigSep_mono fun b _ => one (sndCell c (dist c b)))
    iexact Hs
  isplitl [H0]; · iapply (one (locCell c 0)); iexact H0
  isplitl [H1]; · iapply (one (locCell c 1)); iexact H1
  iapply (one (locCell c 2)); iexact H2

/-- The tokens a device pays with. -/
def payToks (c : Dev nD) : sProp 𝕄 :=
  iprop((bigSep (others c) fun b => dutyTok ER (barCell b) 0 c) ∗ (bigSep (others c) fun b => dutyTok ER (rcvCell b c) 0 (0 : Fin 16))
    ∗ (bigSep (others c) fun b => dutyTok ER (sndCell c (dist c b)) 0 (0 : Fin 16))
    ∗ dutyTok ER (locCell c 0) 0 (0 : Fin 16) ∗ dutyTok ER (locCell c 1) 0 (0 : Fin 16) ∗ dutyTok ER (locCell c 2) 0 (0 : Fin 16))

/-- All the used tokens, given by the cell's device, are all the tokens, held by the device that pays. -/
theorem toks_dealt : (bigSep Finset.univ fun c : Dev nD => (toks c : sProp 𝕄)) ⊢ bigSep Finset.univ fun c : Dev nD => payToks c := by
  refine (bigSep_mono fun c _ => toks_used c).trans ?_
  unfold usedToks payToks
  rw [bigSep_sep', bigSep_sep', bigSep_sep', bigSep_sep',
    others_swap (fun c b => (dutyTok ER (barCell c) 0 b : sProp 𝕄)), others_swap (fun c j => (dutyTok ER (rcvCell c j) 0 (0 : Fin 16) : sProp 𝕄))]
  simp only [bigSep_sep']
  exact BI.Entails.refl _

/-- What may be used any number of times may be used for each thing. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' invariants, put together, are known to all, and every device has the tokens it pays with. -/
theorem regroup :
    (bigSep Finset.univ fun c : Dev nD => iprop((bigSep Finset.univ fun o => iprop(∃ κ : ℕ, cellInv ER (xRd m) κ (kcell (c, o))))
          ∗ ((bigSep Finset.univ fun o => atPos ER (kcell (c, o)) 0 ∅ 0) ∗ (bigSep Finset.univ fun o => reached ER (kcell (c, o)) 0)) ∗ toks c) : sProp 𝕄)
      ⊢ bigSep Finset.univ (G' m) := by
  rw [bigSep_sep', bigSep_sep', bigSep_sep',
    ← bigSep_univ_prod (fun ck : Dev nD × Option (DmaSem sig) => iprop(∃ κ : ℕ, cellInv ER (xRd m) κ (kcell ck))),
    ← bigSep_univ_prod (fun ck : Dev nD × Option (DmaSem sig) => (reached ER (kcell ck) 0 : sProp 𝕄))]
  iintro ⟨HI, ⟨Hat, #HR⟩, Htok⟩
  ihave HK := (BI.bigSep_exists_pi Finset.univ (fun (ck : Dev nD × Option (DmaSem sig)) (κ : ℕ) => (cellInv ER (xRd m) κ (kcell ck) : sProp 𝕄))) $$ HI
  icases HK with ⟨%K, #HI⟩
  ihave Htk := (toks_dealt (F := F)) $$ Htok
  iapply (bigSep_beside (R := cellRecs m K) (Φ := ghost) fun c _ => show iprop(cellRecs m K ∗ ghost c) ⊢ G' m c from by
    unfold G'; iintro H; iexists K; iexact H)
  isplitr
  · unfold cellRecs; isplitl; · iexact HI
    iexact HR
  · iapply (Entails.of_eq (bigSep_sep' Finset.univ (fun c : Dev nD => bigSep Finset.univ fun o => (atPos ER (kcell (c, o)) 0 ∅ 0 : sProp 𝕄)) payToks).symm)
    isplitl [Hat] <;> iassumption

/-- The whole set-up, on all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Equal cells have equal devices and equal semaphores. -/
theorem cell_inj {c d : Dev nD} {x y : SemLoc sig} (h : (((c : Thread nD τ), x) : GSem nD τ sig) = ((d : Thread nD τ), y)) : c = d ∧ x = y :=
  ⟨by have := congrArg (fun g : GSem nD τ sig => g.1.1) h; exact this, congrArg Prod.snd h⟩
/-- Different devices have different receive cells. -/
theorem rcvS_inj {i j : Dev nD} (h : rcvS i = rcvS j) : i = j := by revert i j; decide

/-- What the signals owe a barrier. -/
theorem oweBar_at (J : Finset (Dev nD)) (c : Dev nD) : oweBar J (barCell c) () = if c ∈ J then 1 else 0 := by
  unfold oweBar
  rw [Finset.sum_apply, Finsupp.finset_sum_apply, Finset.sum_congr rfl (g := fun b => if c = b then 1 else 0), Finset.sum_ite_eq]
  intro b _
  rw [tallyAt_apply]
  by_cases h : c = b
  · subst h; rw [if_pos ⟨rfl, rfl⟩, if_pos rfl]
  · rw [if_neg fun h' => h (cell_inj h'.1).1, if_neg h]
/-- The transfers owe a barrier nothing. -/
theorem oweSnd_bar (d : Dev nD) (J : Finset (Dev nD)) (c : Dev nD) : oweSnd d J (barCell c) () = 0 := by
  unfold oweSnd
  rw [Finset.sum_apply, Finsupp.finset_sum_apply]
  exact Finset.sum_eq_zero fun b _ => by rw [tallyAt_ne_cell fun h => by cases (cell_inj h).2]; rfl
/-- The signals owe a receive cell nothing. -/
theorem oweBar_rcv (J : Finset (Dev nD)) (c j : Dev nD) : oweBar J (rcvCell c j) () = 0 := by
  unfold oweBar
  rw [Finset.sum_apply, Finsupp.finset_sum_apply]
  exact Finset.sum_eq_zero fun b _ => by rw [tallyAt_ne_cell fun h => by cases (cell_inj h).2]; rfl
/-- What a device's transfers owe a receive cell. -/
theorem oweSnd_rcv (d : Dev nD) (J : Finset (Dev nD)) (c j : Dev nD) : oweSnd d J (rcvCell c j) () = if j = d ∧ c ∈ J then N else 0 := by
  unfold oweSnd
  rw [Finset.sum_apply, Finsupp.finset_sum_apply, Finset.sum_congr rfl (g := fun b => if c = b then (if j = d then N else 0) else 0), Finset.sum_ite_eq]
  · by_cases h1 : j = d <;> by_cases h2 : c ∈ J <;> simp [h1, h2]
  intro b _
  rw [tallyAt_apply]
  by_cases h : c = b
  · subst h
    by_cases h2 : j = d
    · subst h2; rw [if_pos ⟨rfl, rfl⟩, if_pos rfl, if_pos rfl]
    · rw [if_neg fun h' => h2 (rcvS_inj (SemLoc.dma.inj (cell_inj h'.1).2)), if_pos rfl, if_neg h2]
  · rw [if_neg fun h' => h (cell_inj h'.1).1, if_neg h]

/-- Fifteen devices have a given one among the others. -/
theorem count_others (c : Dev nD) : (∑ d : Dev nD, if c ∈ others d then 1 else 0) = 15 := by revert c; decide

/-- A barrier is owed fifteen signals. -/
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, ← count_others c]
  exact Finset.sum_congr rfl fun d _ => by
    unfold O₀; rw [Pi.add_apply, Finsupp.add_apply, oweSnd_bar, oweBar_at, Nat.zero_add]

/-- A receive cell of another device is owed one block. -/
theorem launch_rcv (c j : Dev nD) (hj : j ∈ others c) :
    tallyOn (rcvCell c j) (launchCredit (Pipeline.owing O₀) 0 (rcvCell c j)) = (tallyAt (rcvCell c j) () N : CellTallies nD τ sig Unit) := by
  unfold tallyAt; refine congrArg _ (Finsupp.ext fun u => ?_); cases u
  rw [Pipeline.launchCredit_owing, Finsupp.single_eq_same]
  have h : ∀ d : Dev nD, O₀ d (rcvCell c j) () = if j = d then N else 0 := fun d => by
    unfold O₀; rw [Pi.add_apply, Finsupp.add_apply, oweSnd_rcv, oweBar_rcv, Nat.add_zero]
    by_cases h : j = d
    · subst h; rw [if_pos ⟨rfl, Finset.mem_erase.2 ⟨(Finset.ne_of_mem_erase hj).symm, Finset.mem_univ _⟩⟩, if_pos rfl]
    · rw [if_neg fun h' => h h'.1, if_neg h]
  rw [Finset.sum_congr rfl fun d _ => h d, Finset.sum_ite_eq, if_pos (Finset.mem_univ _)]

/-- The receive cells among a device's semaphores. -/
def rcvL : Dev nD ↪ SemLoc sig := ⟨fun j => .dma (rcvS j), fun i j h => rcvS_inj (SemLoc.dma.inj h)⟩

/-- What a device is owed at the start are its credits. -/
theorem creds_intro (c : Dev nD) : (Pipeline.launchCred O₀ c : sProp 𝕄) ⊢ creds c := by
  unfold Pipeline.launchCred creds
  rw [bigSep_univ_at _ (SemLoc.reg barS), launch_bar]
  refine sep_mono_right ?_
  have hsub : (others c).map rcvL ⊆ Finset.univ.erase (SemLoc.reg barS) := fun x hx => by
    obtain ⟨j, _, rfl⟩ := Finset.mem_map.1 hx
    exact Finset.mem_erase.2 ⟨(fun h => by cases h), Finset.mem_univ _⟩
  rw [show (bigSep _ _ : sProp 𝕄) = iprop(_ ∗ _) from bigSep_sdiff_split hsub, bigSep_map]
  refine (show iprop(_ ∗ _) ⊢ bigSep (others c) fun j => (cred (tallyOn (rcvCell c j) (launchCredit (Pipeline.owing O₀) 0 (rcvCell c j))) : sProp 𝕄) from by
    iintro ⟨H, -⟩; iexact H).trans (Entails.of_eq (bigSep_congr fun j hj => by rw [launch_rcv c j hj]))

/-! ## The launch theorem's side conditions -/

/-- The start, put together from what the launch gives. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Hw, Hv⟩, Hlev, Hcr, -, HG⟩
  ihave Hc := (creds_intro (F := F) c) $$ Hcr
  unfold G' cellRecs
  icases HG with ⟨%K, ⟨HI, HR⟩, Hg⟩
  imodintro
  unfold start args records
  isplitl
  · isplitl [HI HR Hlev Hg]
    · iexists K
      isplitl [HI HR Hlev]
      · isplitl [HI]; · iexact HI
        isplitl [HR] <;> iassumption
      iexact Hg
    isplitl [Hc]; · iexact Hc
    isplitl [Hx Hw]
    · isplitl [Hx]; · iexact Hx
      iexact Hw
    iexists _; iexact Hv
  · iempintro

/-- The start with the scratch buffers is what holds before the grid point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scopedRest0_eq]
  unfold scratch
  iintro ⟨Hs, -, Hr⟩
  isplitl [Hs]; · iexact Hs
  iexact Hr

/-- What is read off the machine at the end. -/
def last (c : Dev nD) : sProp 𝕄 := iprop(unscopedSems0 c ∗ args m c ∗ (((c : Thread nD τ).loc main_v1) ↦{fullShare} oC m c))

/-- What holds after it gives back the kernel's semaphores and scratch buffers. -/
theorem phi1_exit (c : Dev nD) :
    (dats m ρ 0 c).Φ (Fin.last cfg0.N) ⊢ iprop(last m c ∗ Pipeline.ownSems0 osem c ∗ Pipeline.scopedRest cfg0.spec c) := by
  rw [show (dats m ρ 0 c).Φ (Fin.last cfg0.N) = finish m c from rfl, scopedRest0_eq]
  unfold finish last scratch
  rw [sems_eq]
  iintro ⟨⟨Hu, Ho⟩, Hs, Ha, Hv⟩
  isplitl [Hu Ha Hv]
  · isplitl [Hu]; · iexact Hu
    isplitl [Ha] <;> iassumption
  isplitl [Ho]; · iexact Ho
  iexact Hs

/-- What is read of device `c` at the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = xC m c ∧ s.mem ((c : Thread nD τ).loc main_arg1) = wC m c
    ∧ s.mem ((c : Thread nD τ).loc main_v1) = oC m c

/-- What the device holds at the end makes `QY` true of the machine. -/
theorem read_last (c : Dev nD) (s' : Phys nD τ sig (Elt F)) :
    iprop(last m c ∗ emp ∗ SI s') ⊢ |={Set.univ}=> iprop(⌜QY m c s'.mem⌝ ∗ SI s') := by
  unfold last args
  iintro ⟨⟨Hu, ⟨Hx, Hw⟩, Hv⟩, -, HSI⟩
  icombine HSI Hx gives %hx
  icombine HSI Hw gives %hw
  icombine HSI Hv gives %hv
  imod (Pipeline.unscopedSems0_read (X := unscopedSems0 c) (c := c) fupd_intro s') $$ [Hu HSI] with ⟨%h, HSI⟩
  · isplitl [Hu] <;> iassumption
  imodintro
  isplitr
  · ipureintro
    exact ⟨h, Buf.eq_of_forall_mem_univ hx, Buf.eq_of_forall_mem_univ hw, Buf.eq_of_forall_mem_univ hv⟩
  iexact HSI

/-- The pipeline library has no cell to wait on here. -/
theorem waits (c : Dev nD) : (levAts L lv : sProp 𝕄) ⊢ Pipeline.cellsWaits cfgs (dats m ρ) () 0 c :=
  Pipeline.cellsWaits_intro cfgs (dats m ρ) () 0 c fun w s t => w.elim0

/-! ## The run -/

set_option maxRecDepth 8000 in
/-- On sixteen devices, for any float values, from any memory with zero counters: every weakly fair execution of the
    program ends, and at its end every device's arguments are as they were, its result is `oC`, and every counter is zero. -/
theorem run_main : θ_run defs (onTc (τ := τ) (main (F := F))) (s₀ m ρ)
    (fun r => (∀ c : Dev nD, r.2.mem ((c : Thread nD τ).loc main_arg0) = xC m c ∧ r.2.mem ((c : Thread nD τ).loc main_arg1) = wC m c
      ∧ r.2.mem ((c : Thread nD τ).loc main_v1) = oC m c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := last m) (Z := fun _ => iprop(emp))
    (hX := start_intro m ρ) (hin := phi0_intro m ρ) (hout := phi1_exit m ρ)
    (QY := QY m) (hY := read_last m)
    (hQ := fun _ h hs => ⟨fun c => (h c).2.2.2, sem_eq_zero hs fun c => (h c).2.2.1⟩)

end Cert.KernelIdeal.Exchange

end
-- ==== Proof.Frames.lean ====
/-
# The three frames

What the run of the kernel says of the arguments and the semaphores, at each instance, and the same of the reference.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.SL.Sem

/-- The kernel read with exact arithmetic: every execution ends, its arguments as they were and every semaphore at zero. -/
theorem frame_kernelIdeal : @Cert.quiescent_KernelIdeal Cert.KernelIdeal.Gen.facts := fun m ρ _ =>
  (θ_run (Cert.KernelIdeal.defs (F := Ideal)) _ _).mono (fun _ h => ⟨fun c => ⟨(h.1 c).1, (h.1 c).2.1⟩, h.2⟩)
    (Cert.KernelIdeal.Exchange.run_main (F := Ideal) m ρ)

/-- The kernel at the machine's words: the same. Its text is that of the kernel read with exact arithmetic, so that the
    run proved of the one at any floats is a run of the other. -/
theorem frame_kernel : @Cert.quiescent_Kernel Cert.Kernel.Gen.facts := fun m ρ _ =>
  (θ_run (Cert.KernelIdeal.defs (F := Bits)) _ _).mono (fun _ h => ⟨fun c => ⟨(h.1 c).1, (h.1 c).2.1⟩, h.2⟩)
    (Cert.KernelIdeal.Exchange.run_main (F := Bits) m ρ)

/-- The reference: every execution ends, its arguments as they were; it has no semaphore. -/
theorem frame_reference : @Cert.quiescent_ReferenceIdeal Cert.ReferenceIdeal.Gen.facts := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

end Cert.Proof

end
-- ==== Proof.Value.lean ====
/-
# The value

With exact arithmetic the kernel's result on device `c` is row block `c` of the reference's: the four partial products
make up the product of the whole, and the activation after it is the same function of the product.
-/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.KernelIdeal.Exchange

open Cert.KernelIdeal Cert.KernelIdeal.Gen
open Idealize.SL.Sem
open Idealize.ShloMosaic Idealize.ShloMosaic.TcCoe Idealize.ShloMosaic.ValueIdx

variable (m : (ℓ : Loc nD τ sig) → Buf (Elt Ideal) ℓ)

/-! ## The activation -/

/-- The activation the kernel applies to its product, at one extended real; the constants as they are written. -/
def act (a : EReal) : EReal :=
  (FloatOps.ofBits (F := Ideal) .f32 0x3F000000#32 : EReal) * a
    * ((FloatOps.ofBits (F := Ideal) .f32 0x3F800000#32 : EReal)
      + Ideal.tanh ((FloatOps.ofBits (F := Ideal) .f32 0x3F4C422A#32 : EReal)
        * (a + (FloatOps.ofBits (F := Ideal) .f32 0x3D372713#32 : EReal) * (a * a * a))))

/-- The last payload at an index is the activation of the accumulator with the last product added. -/
theorem pay7_apply (acc : FVec Ideal S128x2048 .f32) (x : Vec Ideal S128x512 .bf16) (w : Vec Ideal S512x2048 .f32)
    (i : S128x2048.Idx) : k0_pay7 acc x w i = act (k0_pay5 acc x w i) := by
  unfold k0_pay7
  rw [shapeCast_self]
  show (_ : EReal) = act (k0_pay5 acc x w i)
  unfold act
  rw [← mul_assoc (_ : EReal) (k0_pay5 acc x w i * k0_pay5 acc x w i), ← mul_assoc (_ : EReal) (k0_pay5 acc x w i)]
  rfl

/-! ## The product -/

/-- One product of 512 terms added to an accumulator. -/
theorem pay5_apply (acc : FVec Ideal S128x2048 .f32) (x : Vec Ideal S128x512 .bf16) (w : Vec Ideal S512x2048 .f32)
    (r : Fin 128) (l : Fin 2048) :
    (k0_pay5 acc x w (ix2 r l) : EReal) = acc (ix2 r l) + ∑ k : Fin 512, (x (ix2 r k) : EReal) * w (ix2 k l) := by
  show (acc (ix2 r l) : EReal)
    + FloatOps.matmul (DotDims.plain 128 512 2048) none x w (constant (F := Ideal) S128x2048 .f32 0x00000000#32) (ix2 r l) = _
  rw [Ideal.matmul_plain_apply]
  have h0 : (constant (F := Ideal) S128x2048 .f32 0x00000000#32 (ix2 r l) : EReal) = 0 := Ideal.ofBits_zero_f32
  rw [h0, zero_add]

/-- A sum of 2048 terms taken in four quarters. -/
theorem sum_quarters {M : Type*} [AddCommMonoid M] (f : ℕ → M) :
    ∑ k : Fin 512, f (0 + k) + ∑ k : Fin 512, f (512 + k) + ∑ k : Fin 512, f (1024 + k) + ∑ k : Fin 512, f (1536 + k)
      = ∑ k : Fin 2048, f k := by
  rw [Fin.sum_univ_eq_sum_range f 2048, Fin.sum_univ_eq_sum_range (fun k => f (0 + k)) 512,
    Fin.sum_univ_eq_sum_range (fun k => f (512 + k)) 512, Fin.sum_univ_eq_sum_range (fun k => f (1024 + k)) 512,
    Fin.sum_univ_eq_sum_range (fun k => f (1536 + k)) 512]
  rw [show 2048 = 512 + 512 + 512 + 512 from rfl, Finset.sum_range_add, Finset.sum_range_add, Finset.sum_range_add]
  simp only [Nat.zero_add]

/-- Term `k` of the kernel's whole product at row `r`, column `l` of device `c`'s block; zero from 2048 on. -/
def term (c : Dev nD) (r : Fin 128) (l : Fin 2048) (k : ℕ) : EReal :=
  if h : k < 2048 then (rC m c (ix2 r ⟨k, h⟩) : EReal) * wC m c (ix2 ⟨k, h⟩ l) else 0

/-- Term `k` below 2048. -/
theorem term_lt (c : Dev nD) (r : Fin 128) (l : Fin 2048) (k : ℕ) (h : k < 2048) :
    term m c r l k = (rC m c (ix2 r ⟨k, h⟩) : EReal) * wC m c (ix2 ⟨k, h⟩ l) := dif_pos h

/-- What the kernel reads for the product whose first term is number `o` are that term and the 511 after it. -/
theorem quarter (c : Dev nD) (o : ℕ) (ho : o + 512 ≤ 2048) (h h') (r : Fin 128) (l : Fin 2048) :
    ∑ k : Fin 512, (xg m c o h (ix2 r k) : EReal) * wg m c o h' (ix2 k l) = ∑ k : Fin 512, term m c r l (o + k) := by
  refine Finset.sum_congr rfl fun k _ => ?_
  have hk : o + k.val < 2048 := by omega
  rw [term_lt m c r l _ hk]
  have hx : (xg m c o h (ix2 r k) : EReal) = rC m c (ix2 r ⟨o + k, hk⟩) := by
    unfold xg
    rw [View.readAt_rect, View.read_apply]
    refine congrArg (rC m c) (funext fun a => Fin.ext ?_)
    have he := ValueKit.view_emb_slice_whole_unit_val cc0_scratch3 (![0, o] : Fin 2 → ℕ) S128x512.size h (ix2 r k)
    fin_cases a
    · exact (he 0).trans (Nat.zero_add r.val)
    · exact he 1
  have hw : (wg m c o h' (ix2 k l) : EReal) = wC m c (ix2 ⟨o + k, hk⟩ l) := by
    unfold wg
    rw [View.readAt_rect, View.read_apply]
    refine congrArg (wC m c) (funext fun a => Fin.ext ?_)
    have he := ValueKit.view_emb_slice_whole_unit_val cc0_scratch2 (![o, 0] : Fin 2 → ℕ) S512x2048.size h' (ix2 k l)
    fin_cases a
    · exact he 0
    · exact (he 1).trans (Nat.zero_add l.val)
  rw [hx, hw]

/-- The kernel's result on device `c`: the activation of the whole product. -/
theorem oC_apply (c : Dev nD) (r : Fin 128) (l : Fin 2048) :
    oC m c (ix2 r l) = act (∑ k : Fin 2048, term m c r l k) := by
  unfold oC
  rw [pay7_apply]
  refine congrArg act ?_
  have h3 : acc3 m c = k0_pay5 (k0_pay5 (acc1 m c) (xg m c 512 inb_S128x2048_S128x512_0_512) (wg m c 512 inb_S2048x2048_S512x2048_512_0))
    (xg m c 1024 inb_S128x2048_S128x512_0_1024) (wg m c 1024 inb_S2048x2048_S512x2048_1024_0) := rfl
  have h0 : (k0_pay4 (F := Ideal) (ix2 r l) : EReal) = 0 := Ideal.ofBits_zero_f32
  rw [pay5_apply, h3, pay5_apply, pay5_apply, acc1, pay5_apply, h0, zero_add,
    quarter m c 0 (by omega), quarter m c 512 (by omega), quarter m c 1024 (by omega), quarter m c 1536 (by omega)]
  exact sum_quarters (term m c r l)

/-! ## The reference -/

/-- The reference's result on whole arrays. -/
def refOut (x w : Vec Ideal S2048x2048 .f32) : Vec Ideal S2048x2048 .f32 := fun j =>
  act (∑ k : Fin 2048, (x (ix2 (j 0) k) : EReal) * w (ix2 k (j 1)))

/-- The reference's product at an index. -/
theorem dot_apply (x w : Vec Ideal S2048x2048 .f32) (j : S2048x2048.Idx) :
    (Host.dotGeneral (F := Ideal) (φ₁ := .f32) (φ₂ := .f32) Cert.ReferenceIdeal.dot_S2048x2048_S2048x2048_S2048x2048_1_0_0_1_n_n none x w j : EReal)
      = ∑ k : Fin 2048, (x (ix2 (j 0) k) : EReal) * w (ix2 k (j 1)) := by
  conv_lhs => rw [eq_ix2 j]
  exact StackMember.dotGeneral_plain_apply (m := 2048) (n := 2048) (k := 2048) none x w (j 0) (j 1)

/-- Each run of the reference ends with its result at `refOut` of its arguments, and these unchanged. -/
theorem run_reference (m' : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g⟩
      fun r => ∀ c : Dev Cert.ReferenceIdeal.nD,
        r.2.mem ((c.tc : Thread Cert.ReferenceIdeal.nD Cert.ReferenceIdeal.τ).loc Cert.ReferenceIdeal.main_v13)
            = refOut (m' ((c.tc : Thread _ Cert.ReferenceIdeal.τ).loc Cert.ReferenceIdeal.main_arg0))
                (m' ((c.tc : Thread _ Cert.ReferenceIdeal.τ).loc Cert.ReferenceIdeal.main_arg1))
        ∧ r.2.mem ((c.tc : Thread Cert.ReferenceIdeal.nD Cert.ReferenceIdeal.τ).loc Cert.ReferenceIdeal.main_arg0)
            = m' ((c.tc : Thread _ Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread _ Cert.ReferenceIdeal.τ).loc Cert.ReferenceIdeal.main_arg1) := by
  refine (θ_run (Cert.ReferenceIdeal.defs (F := Ideal)) _ _).mono (fun r h c => ⟨(h c).1.trans ?_, (h c).2⟩)
    (Cert.ReferenceIdeal.Value.run (F := Ideal) m' g)
  funext j
  exact Eq.trans (show _ = act _ from rfl) (congrArg act (dot_apply _ _ j))

/-! ## A block of the reference's result -/

/-- Where device `c` holds column block `c` of `x` and the whole of `w`, what it ends with is row block `c` of the
    reference's result on `x` and `w`. -/
theorem oC_block (x w : Vec Ideal S2048x2048 .f32)
    (hx : ∀ c : Dev nD, xC m c = Layout.block ⟨2, ![2048, 128]⟩ ⟨2, ![2048, 2048]⟩ 1 16 c x)
    (hw : ∀ c : Dev nD, wC m c = w) (c : Dev nD) :
    oC m c = Layout.block ⟨2, ![128, 2048]⟩ ⟨2, ![2048, 2048]⟩ 0 16 c (refOut x w) := by
  funext i
  obtain ⟨r, l, rfl⟩ : ∃ (r : Fin 128) (l : Fin 2048), i = ix2 r l := ⟨i 0, i 1, eq_ix2 i⟩
  rw [oC_apply, Layout.block_apply]
  unfold refOut
  refine congrArg act (Finset.sum_congr rfl fun k _ => ?_)
  rw [term_lt m c _ _ _ k.isLt, hw c]
  refine congrArg₂ (fun a b : EReal => a * b) ?_ ?_
  · show (bC m (colBlk (ix2 r k)) (srcIdx c (ix2 r k)) : EReal) = _
    have hb : ∀ (d : Dev nD) (y : S2048x128.Idx), (bC m d y : EReal) = xC m d y := fun d y => by
      unfold bC k0_pay2
      rw [shapeCast_self]
      rfl
    rw [hb, hx, Layout.block_apply]
    refine congrArg x (funext fun a => Fin.ext ?_)
    fin_cases a
    · show 128 * c.val + r.val = c.val * 128 + r.val
      omega
    · show k.val / 128 * 128 + k.val % 128 = k.val
      omega
  · refine congrArg w (funext fun a => Fin.ext ?_)
    fin_cases a <;> rfl

end Cert.KernelIdeal.Exchange

end
-- ==== Proof.lean ====
/-
# The certificate

The claims of Defs.lean put together: the three frames (Proof/Frames.lean), that the kernel read with exact arithmetic
is the kernel, and that its result is the reference's (Proof/Value.lean).
-/
module

public import proofs.«01_k».proof.Defs
public import proofs.«01_k».proof.Proof.Frames
public import proofs.«01_k».proof.Proof.Value

@[expose] public section

noncomputable section

namespace Cert.Proof

open Idealize.ShloMosaic Idealize.SL.Sem

/-- With exact arithmetic, started with its column block of `x` and with `w`, each device ends with its row block of what
    the reference computes of the whole `x` and `w`; the arguments of both are unchanged. -/
theorem algebraic : @Cert.algebraic_KernelIdeal_ReferenceIdeal Cert.KernelIdeal.Gen.facts Cert.ReferenceIdeal.Gen.facts := by
  intro m g m' g' _ hagree
  refine ⟨Cert.KernelIdeal.Exchange.refOut
      (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)), ?_, ?_⟩
  · exact (θ_run (Cert.KernelIdeal.defs (F := Ideal)) _ _).mono
      (fun r h c => ⟨(h.1 c).2.2.trans (Cert.KernelIdeal.Exchange.oC_block m _ _ (fun d => (hagree d).1) (fun d => (hagree d).2) c),
        (h.1 c).1, (h.1 c).2.1⟩)
      (Cert.KernelIdeal.Exchange.run_main (F := Ideal) m g)
  · exact (θ_run (Cert.ReferenceIdeal.defs (F := Ideal)) _ _).mono (fun r h => h 0)
      (Cert.KernelIdeal.Exchange.run_reference m' g')

/-- All five claims. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
